-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x19x512x512 : Shape := ⟨4, ![8, 19, 512, 512]⟩
abbrev S8x512x512 : Shape := ⟨3, ![8, 512, 512]⟩
abbrev S12288x128 : Shape := ⟨2, ![12288, 128]⟩
abbrev S1x19x256x512 : Shape := ⟨4, ![1, 19, 256, 512]⟩
abbrev S1x256x512 : Shape := ⟨3, ![1, 256, 512]⟩
abbrev S1024x128 : Shape := ⟨2, ![1024, 128]⟩
abbrev S19x256x512 : Shape := ⟨3, ![19, 256, 512]⟩
abbrev S256x512 : Shape := ⟨2, ![256, 512]⟩
abbrev S96x128 : Shape := ⟨2, ![96, 128]⟩
abbrev S384x128 : Shape := ⟨2, ![384, 128]⟩
abbrev S16x384 : Shape := ⟨2, ![16, 384]⟩
abbrev S3x128 : Shape := ⟨2, ![3, 128]⟩
abbrev S_ : Shape := ⟨0, ![]⟩
abbrev S16 : Shape := ⟨1, ![16]⟩
abbrev S1x16 : Shape := ⟨2, ![1, 16]⟩
abbrev S4096x128 : Shape := ⟨2, ![4096, 128]⟩
abbrev S128x128 : Shape := ⟨2, ![128, 128]⟩
abbrev S19x1 : Shape := ⟨2, ![19, 1]⟩
abbrev S1x96 : Shape := ⟨2, ![1, 96]⟩
abbrev S19x128 : Shape := ⟨2, ![19, 128]⟩
abbrev S1x128 : Shape := ⟨2, ![1, 128]⟩
abbrev S19 : Shape := ⟨1, ![19]⟩

abbrev nBuf : Table → Nat
  | .hbm => 8
  | .local .tc .vmem => 15
  | .local .scVector .vmem => 6
  | _ => 0

abbrev bufTy : (tb : Table) → Fin (nBuf tb) → BufTy
  | .hbm, ⟨0, _⟩ => ⟨S8x19x512x512, .f32⟩
  | .hbm, ⟨1, _⟩ => ⟨S8x512x512, .i32⟩
  | .hbm, ⟨2, _⟩ => ⟨S12288x128, .i32⟩
  | .hbm, ⟨3, _⟩ => ⟨S96x128, .f32⟩
  | .hbm, ⟨4, _⟩ => ⟨S4096x128, .i32⟩
  | .hbm, ⟨5, _⟩ => ⟨S96x128, .f32⟩
  | .hbm, ⟨6, _⟩ => ⟨S19x1, .f32⟩
  | .hbm, ⟨7, _⟩ => ⟨S19, .f32⟩
  | .local .tc .vmem, ⟨0, _⟩ => ⟨S1x19x256x512, .f32⟩
  | .local .tc .vmem, ⟨1, _⟩ => ⟨S1x19x256x512, .f32⟩
  | .local .tc .vmem, ⟨2, _⟩ => ⟨S1x256x512, .i32⟩
  | .local .tc .vmem, ⟨3, _⟩ => ⟨S1x256x512, .i32⟩
  | .local .tc .vmem, ⟨4, _⟩ => ⟨S1024x128, .i32⟩
  | .local .tc .vmem, ⟨5, _⟩ => ⟨S1024x128, .i32⟩
  | .local .tc .vmem, ⟨6, _⟩ => ⟨S1x19x256x512, .f32⟩
  | .local .tc .vmem, ⟨7, _⟩ => ⟨S1x19x256x512, .f32⟩
  | .local .tc .vmem, ⟨8, _⟩ => ⟨S1x256x512, .i32⟩
  | .local .tc .vmem, ⟨9, _⟩ => ⟨S1x256x512, .i32⟩
  | .local .tc .vmem, ⟨10, _⟩ => ⟨S1024x128, .i32⟩
  | .local .tc .vmem, ⟨11, _⟩ => ⟨S1024x128, .i32⟩
  | .local .tc .vmem, ⟨12, _⟩ => ⟨S96x128, .f32⟩
  | .local .tc .vmem, ⟨13, _⟩ => ⟨S96x128, .f32⟩
  | .local .tc .vmem, ⟨14, _⟩ => ⟨S19x1, .f32⟩
  | .local .scVector .vmem, ⟨0, _⟩ => ⟨S384x128, .i32⟩
  | .local .scVector .vmem, ⟨1, _⟩ => ⟨S16x384, .f32⟩
  | .local .scVector .vmem, ⟨2, _⟩ => ⟨S3x128, .f32⟩
  | .local .scVector .vmem, ⟨3, _⟩ => ⟨S128x128, .i32⟩
  | .local .scVector .vmem, ⟨4, _⟩ => ⟨S16x384, .f32⟩
  | .local .scVector .vmem, ⟨5, _⟩ => ⟨S3x128, .f32⟩
  | _, _ => ⟨S8x19x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc4_stg0_0 : Ref sig .tc := ⟨.vmem, 12, rfl⟩
abbrev cc4_stg1_0 : Ref sig .tc := ⟨.vmem, 13, rfl⟩
abbrev cc4_stg2_0 : Ref sig .tc := ⟨.vmem, 14, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc4_sem0_0 : DmaSem sig := 16
abbrev cc4_sem1_0 : DmaSem sig := 17
abbrev cc4_sem2_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![6, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x19x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let c0_i32_1551_r0 : BitVec 32 := 0#32
  ![v2.toNat, 0]
@[reducible] def k1_t1_loop : Scf.Loop 32 :=
  let c0_i32_730 : BitVec 32 := 0#32
  let c384_i32_731 : BitVec 32 := 384#32
  let v774 : BitVec 32 := Scalar.addi c0_i32_730 c384_i32_731
  let c1_i32_732 : BitVec 32 := 1#32
  ⟨c0_i32_730, v774, c1_i32_732⟩
def k1_off2 (k1_t1 : Fin k1_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k1_t1
  let c1_i32_1551 : BitVec 32 := 1#32
  let v1952 : BitVec 32 := Scalar.muli arg7 c1_i32_1551
  let v1953 : BitVec 32 := Scalar.addi c0_i32_1552 v1952
  let v1954 : Index := Scalar.indexCast v1953
  let c0_1553 : Index := 0#32
  ![v1954.toNat, 0]

def k1_chk1 (v772 : IVec S16 32) (v1955 : IVec S16 32) : Prop :=
  (∀ a x, ((![v772, v1955] : Fin 2 → IVec S16 32) a x).toNat < S16x384.size a)
theorem k1_idx1_inb : ∀ (v772 : IVec S16 32) (v1955 : IVec S16 32) (k1_hw1 : k1_chk1 v772 v1955), ∀ a x, ((![v772, v1955] : Fin 2 → IVec S16 32) a x).toNat < S16x384.size a := fun v772 v1955 k1_hw1 => k1_hw1
def k1_off3 (k1_t1 : Fin k1_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k1_t1
  let c1_i32_1551 : BitVec 32 := 1#32
  let v1952 : BitVec 32 := Scalar.muli arg7 c1_i32_1551
  let v1953 : BitVec 32 := Scalar.addi c0_i32_1552 v1952
  let v1956 : Index := Scalar.indexCast v1953
  let c16_1554 : Index := 16#32
  ![v1956.toNat, 16]

def k1_chk2 (v772 : IVec S16 32) (v1957 : IVec S16 32) : Prop :=
  (∀ a x, ((![v772, v1957] : Fin 2 → IVec S16 32) a x).toNat < S16x384.size a)
theorem k1_idx2_inb : ∀ (v772 : IVec S16 32) (v1957 : IVec S16 32) (k1_hw2 : k1_chk2 v772 v1957), ∀ a x, ((![v772, v1957] : Fin 2 → IVec S16 32) a x).toNat < S16x384.size a := fun v772 v1957 k1_hw2 => k1_hw2
def k1_off4 (k1_t1 : Fin k1_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k1_t1
  let c1_i32_1551 : BitVec 32 := 1#32
  let v1952 : BitVec 32 := Scalar.muli arg7 c1_i32_1551
  let v1953 : BitVec 32 := Scalar.addi c0_i32_1552 v1952
  let v1958 : Index := Scalar.indexCast v1953
  let c32_1555 : Index := 32#32
  ![v1958.toNat, 32]

def k1_chk3 (v772 : IVec S16 32) (v1959 : IVec S16 32) : Prop :=
  (∀ a x, ((![v772, v1959] : Fin 2 → IVec S16 32) a x).toNat < S16x384.size a)
theorem k1_idx3_inb : ∀ (v772 : IVec S16 32) (v1959 : IVec S16 32) (k1_hw3 : k1_chk3 v772 v1959), ∀ a x, ((![v772, v1959] : Fin 2 → IVec S16 32) a x).toNat < S16x384.size a := fun v772 v1959 k1_hw3 => k1_hw3
def k1_off5 (k1_t1 : Fin k1_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k1_t1
  let c1_i32_1551 : BitVec 32 := 1#32
  let v1952 : BitVec 32 := Scalar.muli arg7 c1_i32_1551
  let v1953 : BitVec 32 := Scalar.addi c0_i32_1552 v1952
  let v1960 : Index := Scalar.indexCast v1953
  let c48_1556 : Index := 48#32
  ![v1960.toNat, 48]

def k1_chk4 (v772 : IVec S16 32) (v1961 : IVec S16 32) : Prop :=
  (∀ a x, ((![v772, v1961] : Fin 2 → IVec S16 32) a x).toNat < S16x384.size a)
theorem k1_idx4_inb : ∀ (v772 : IVec S16 32) (v1961 : IVec S16 32) (k1_hw4 : k1_chk4 v772 v1961), ∀ a x, ((![v772, v1961] : Fin 2 → IVec S16 32) a x).toNat < S16x384.size a := fun v772 v1961 k1_hw4 => k1_hw4
def k1_off6 (k1_t1 : Fin k1_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k1_t1
  let c1_i32_1551 : BitVec 32 := 1#32
  let v1952 : BitVec 32 := Scalar.muli arg7 c1_i32_1551
  let v1953 : BitVec 32 := Scalar.addi c0_i32_1552 v1952
  let v1962 : Index := Scalar.indexCast v1953
  let c64_1557 : Index := 64#32
  ![v1962.toNat, 64]

def k1_chk5 (v772 : IVec S16 32) (v1963 : IVec S16 32) : Prop :=
  (∀ a x, ((![v772, v1963] : Fin 2 → IVec S16 32) a x).toNat < S16x384.size a)
theorem k1_idx5_inb : ∀ (v772 : IVec S16 32) (v1963 : IVec S16 32) (k1_hw5 : k1_chk5 v772 v1963), ∀ a x, ((![v772, v1963] : Fin 2 → IVec S16 32) a x).toNat < S16x384.size a := fun v772 v1963 k1_hw5 => k1_hw5
def k1_off7 (k1_t1 : Fin k1_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k1_t1
  let c1_i32_1551 : BitVec 32 := 1#32
  let v1952 : BitVec 32 := Scalar.muli arg7 c1_i32_1551
  let v1953 : BitVec 32 := Scalar.addi c0_i32_1552 v1952
  let v1964 : Index := Scalar.indexCast v1953
  let c80_1558 : Index := 80#32
  ![v1964.toNat, 80]

def k1_chk6 (v772 : IVec S16 32) (v1965 : IVec S16 32) : Prop :=
  (∀ a x, ((![v772, v1965] : Fin 2 → IVec S16 32) a x).toNat < S16x384.size a)
theorem k1_idx6_inb : ∀ (v772 : IVec S16 32) (v1965 : IVec S16 32) (k1_hw6 : k1_chk6 v772 v1965), ∀ a x, ((![v772, v1965] : Fin 2 → IVec S16 32) a x).toNat < S16x384.size a := fun v772 v1965 k1_hw6 => k1_hw6
def k1_off8 (k1_t1 : Fin k1_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k1_t1
  let c1_i32_1551 : BitVec 32 := 1#32
  let v1952 : BitVec 32 := Scalar.muli arg7 c1_i32_1551
  let v1953 : BitVec 32 := Scalar.addi c0_i32_1552 v1952
  let v1966 : Index := Scalar.indexCast v1953
  let c96_1559 : Index := 96#32
  ![v1966.toNat, 96]

def k1_chk7 (v772 : IVec S16 32) (v1967 : IVec S16 32) : Prop :=
  (∀ a x, ((![v772, v1967] : Fin 2 → IVec S16 32) a x).toNat < S16x384.size a)
theorem k1_idx7_inb : ∀ (v772 : IVec S16 32) (v1967 : IVec S16 32) (k1_hw7 : k1_chk7 v772 v1967), ∀ a x, ((![v772, v1967] : Fin 2 → IVec S16 32) a x).toNat < S16x384.size a := fun v772 v1967 k1_hw7 => k1_hw7
def k1_off9 (k1_t1 : Fin k1_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k1_t1
  let c1_i32_1551 : BitVec 32 := 1#32
  let v1952 : BitVec 32 := Scalar.muli arg7 c1_i32_1551
  let v1953 : BitVec 32 := Scalar.addi c0_i32_1552 v1952
  let v1968 : Index := Scalar.indexCast v1953
  let c112_1560 : Index := 112#32
  ![v1968.toNat, 112]

def k1_chk8 (v772 : IVec S16 32) (v1969 : IVec S16 32) : Prop :=
  (∀ a x, ((![v772, v1969] : Fin 2 → IVec S16 32) a x).toNat < S16x384.size a)
theorem k1_idx8_inb : ∀ (v772 : IVec S16 32) (v1969 : IVec S16 32) (k1_hw8 : k1_chk8 v772 v1969), ∀ a x, ((![v772, v1969] : Fin 2 → IVec S16 32) a x).toNat < S16x384.size a := fun v772 v1969 k1_hw8 => k1_hw8
def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1550 : BitVec 32 := 3#32
  let v1951 : BitVec 32 := Scalar.muli v1 c3_i32_1550
  let c0_i32_1551_r1 : BitVec 32 := 0#32
  ![v1951.toNat, 0]
abbrev grid2 : Pipeline.Grid := ⟨2, ![2, 2], ![false, false]⟩

def cc2_transform_0 (i : grid2.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![v0.toNat, c0_i32.toNat, arg1.toNat, c0_i32_0.toNat]

def cc2_transform_1 (i : grid2.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![v0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S1x19x256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x512 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x128 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 16], ![false, false]⟩

def k3_off1 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_1551_r0 : BitVec 32 := 0#32
  ![v2.toNat, 0]
@[reducible] def k3_t1_loop : Scf.Loop 32 :=
  let c0_i32_730 : BitVec 32 := 0#32
  let c128_i32_731 : BitVec 32 := 128#32
  let v774 : BitVec 32 := Scalar.addi c0_i32_730 c128_i32_731
  let c1_i32_732 : BitVec 32 := 1#32
  ⟨c0_i32_730, v774, c1_i32_732⟩
def k3_off2 (k3_t1 : Fin k3_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k3_t1
  let c1_i32_1551 : BitVec 32 := 1#32
  let v1952 : BitVec 32 := Scalar.muli arg7 c1_i32_1551
  let v1953 : BitVec 32 := Scalar.addi c0_i32_1552 v1952
  let v1954 : Index := Scalar.indexCast v1953
  let c0_1553 : Index := 0#32
  ![v1954.toNat, 0]

def k3_chk1 (v772 : IVec S16 32) (v1955 : IVec S16 32) : Prop :=
  (∀ a x, ((![v772, v1955] : Fin 2 → IVec S16 32) a x).toNat < S16x384.size a)
theorem k3_idx1_inb : ∀ (v772 : IVec S16 32) (v1955 : IVec S16 32) (k3_hw1 : k3_chk1 v772 v1955), ∀ a x, ((![v772, v1955] : Fin 2 → IVec S16 32) a x).toNat < S16x384.size a := fun v772 v1955 k3_hw1 => k3_hw1
def k3_off3 (k3_t1 : Fin k3_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k3_t1
  let c1_i32_1551 : BitVec 32 := 1#32
  let v1952 : BitVec 32 := Scalar.muli arg7 c1_i32_1551
  let v1953 : BitVec 32 := Scalar.addi c0_i32_1552 v1952
  let v1956 : Index := Scalar.indexCast v1953
  let c16_1554 : Index := 16#32
  ![v1956.toNat, 16]

def k3_chk2 (v772 : IVec S16 32) (v1957 : IVec S16 32) : Prop :=
  (∀ a x, ((![v772, v1957] : Fin 2 → IVec S16 32) a x).toNat < S16x384.size a)
theorem k3_idx2_inb : ∀ (v772 : IVec S16 32) (v1957 : IVec S16 32) (k3_hw2 : k3_chk2 v772 v1957), ∀ a x, ((![v772, v1957] : Fin 2 → IVec S16 32) a x).toNat < S16x384.size a := fun v772 v1957 k3_hw2 => k3_hw2
def k3_off4 (k3_t1 : Fin k3_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k3_t1
  let c1_i32_1551 : BitVec 32 := 1#32
  let v1952 : BitVec 32 := Scalar.muli arg7 c1_i32_1551
  let v1953 : BitVec 32 := Scalar.addi c0_i32_1552 v1952
  let v1958 : Index := Scalar.indexCast v1953
  let c32_1555 : Index := 32#32
  ![v1958.toNat, 32]

def k3_chk3 (v772 : IVec S16 32) (v1959 : IVec S16 32) : Prop :=
  (∀ a x, ((![v772, v1959] : Fin 2 → IVec S16 32) a x).toNat < S16x384.size a)
theorem k3_idx3_inb : ∀ (v772 : IVec S16 32) (v1959 : IVec S16 32) (k3_hw3 : k3_chk3 v772 v1959), ∀ a x, ((![v772, v1959] : Fin 2 → IVec S16 32) a x).toNat < S16x384.size a := fun v772 v1959 k3_hw3 => k3_hw3
def k3_off5 (k3_t1 : Fin k3_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k3_t1
  let c1_i32_1551 : BitVec 32 := 1#32
  let v1952 : BitVec 32 := Scalar.muli arg7 c1_i32_1551
  let v1953 : BitVec 32 := Scalar.addi c0_i32_1552 v1952
  let v1960 : Index := Scalar.indexCast v1953
  let c48_1556 : Index := 48#32
  ![v1960.toNat, 48]

def k3_chk4 (v772 : IVec S16 32) (v1961 : IVec S16 32) : Prop :=
  (∀ a x, ((![v772, v1961] : Fin 2 → IVec S16 32) a x).toNat < S16x384.size a)
theorem k3_idx4_inb : ∀ (v772 : IVec S16 32) (v1961 : IVec S16 32) (k3_hw4 : k3_chk4 v772 v1961), ∀ a x, ((![v772, v1961] : Fin 2 → IVec S16 32) a x).toNat < S16x384.size a := fun v772 v1961 k3_hw4 => k3_hw4
def k3_off6 (k3_t1 : Fin k3_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k3_t1
  let c1_i32_1551 : BitVec 32 := 1#32
  let v1952 : BitVec 32 := Scalar.muli arg7 c1_i32_1551
  let v1953 : BitVec 32 := Scalar.addi c0_i32_1552 v1952
  let v1962 : Index := Scalar.indexCast v1953
  let c64_1557 : Index := 64#32
  ![v1962.toNat, 64]

def k3_chk5 (v772 : IVec S16 32) (v1963 : IVec S16 32) : Prop :=
  (∀ a x, ((![v772, v1963] : Fin 2 → IVec S16 32) a x).toNat < S16x384.size a)
theorem k3_idx5_inb : ∀ (v772 : IVec S16 32) (v1963 : IVec S16 32) (k3_hw5 : k3_chk5 v772 v1963), ∀ a x, ((![v772, v1963] : Fin 2 → IVec S16 32) a x).toNat < S16x384.size a := fun v772 v1963 k3_hw5 => k3_hw5
def k3_off7 (k3_t1 : Fin k3_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k3_t1
  let c1_i32_1551 : BitVec 32 := 1#32
  let v1952 : BitVec 32 := Scalar.muli arg7 c1_i32_1551
  let v1953 : BitVec 32 := Scalar.addi c0_i32_1552 v1952
  let v1964 : Index := Scalar.indexCast v1953
  let c80_1558 : Index := 80#32
  ![v1964.toNat, 80]

def k3_chk6 (v772 : IVec S16 32) (v1965 : IVec S16 32) : Prop :=
  (∀ a x, ((![v772, v1965] : Fin 2 → IVec S16 32) a x).toNat < S16x384.size a)
theorem k3_idx6_inb : ∀ (v772 : IVec S16 32) (v1965 : IVec S16 32) (k3_hw6 : k3_chk6 v772 v1965), ∀ a x, ((![v772, v1965] : Fin 2 → IVec S16 32) a x).toNat < S16x384.size a := fun v772 v1965 k3_hw6 => k3_hw6
def k3_off8 (k3_t1 : Fin k3_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k3_t1
  let c1_i32_1551 : BitVec 32 := 1#32
  let v1952 : BitVec 32 := Scalar.muli arg7 c1_i32_1551
  let v1953 : BitVec 32 := Scalar.addi c0_i32_1552 v1952
  let v1966 : Index := Scalar.indexCast v1953
  let c96_1559 : Index := 96#32
  ![v1966.toNat, 96]

def k3_chk7 (v772 : IVec S16 32) (v1967 : IVec S16 32) : Prop :=
  (∀ a x, ((![v772, v1967] : Fin 2 → IVec S16 32) a x).toNat < S16x384.size a)
theorem k3_idx7_inb : ∀ (v772 : IVec S16 32) (v1967 : IVec S16 32) (k3_hw7 : k3_chk7 v772 v1967), ∀ a x, ((![v772, v1967] : Fin 2 → IVec S16 32) a x).toNat < S16x384.size a := fun v772 v1967 k3_hw7 => k3_hw7
def k3_off9 (k3_t1 : Fin k3_t1_loop.trips) : Fin 2 → Nat :=
  let c0_i32_1552 : BitVec 32 := 0#32
  let c0_i32_730 : BitVec 32 := 0#32
  let c1_i32_732 : BitVec 32 := 1#32
  let arg7 : BitVec 32 := Scf.iv c0_i32_730 c1_i32_732 k3_t1
  let c1_i32_1551 : BitVec 32 := 1#32
  let v1952 : BitVec 32 := Scalar.muli arg7 c1_i32_1551
  let v1953 : BitVec 32 := Scalar.addi c0_i32_1552 v1952
  let v1968 : Index := Scalar.indexCast v1953
  let c112_1560 : Index := 112#32
  ![v1968.toNat, 112]

def k3_chk8 (v772 : IVec S16 32) (v1969 : IVec S16 32) : Prop :=
  (∀ a x, ((![v772, v1969] : Fin 2 → IVec S16 32) a x).toNat < S16x384.size a)
theorem k3_idx8_inb : ∀ (v772 : IVec S16 32) (v1969 : IVec S16 32) (k3_hw8 : k3_chk8 v772 v1969), ∀ a x, ((![v772, v1969] : Fin 2 → IVec S16 32) a x).toNat < S16x384.size a := fun v772 v1969 k3_hw8 => k3_hw8
def k3_off10 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1550 : BitVec 32 := 3#32
  let v1951 : BitVec 32 := Scalar.muli v1 c3_i32_1550
  let c0_i32_1551_r1 : BitVec 32 := 0#32
  ![v1951.toNat, 0]
abbrev grid4 : Pipeline.Grid := .none

abbrev stage4_0 : Fin 1 → Memref sig .tc .vmem S96x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S96x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S19x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S2097152 : Shape := ⟨1, ![2097152]⟩
abbrev S362 : Shape := ⟨1, ![362]⟩
abbrev S2097152x1 : Shape := ⟨2, ![2097152, 1]⟩
abbrev S361 : Shape := ⟨1, ![361]⟩
abbrev S19x19 : Shape := ⟨2, ![19, 19]⟩
abbrev S19 : Shape := ⟨1, ![19]⟩
abbrev S1 : Shape := ⟨1, ![1]⟩

abbrev nBuf : Space → Nat
  | .hbm => 102
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x19x512x512, .i32⟩
  | .hbm, ⟨3, _⟩ => ⟨S_, .f32⟩
  | .hbm, ⟨4, _⟩ => ⟨S_, .i32⟩
  | .hbm, ⟨5, _⟩ => ⟨S8x512x512, .f32⟩
  | .hbm, ⟨6, _⟩ => ⟨S8x512x512, .i32⟩
  | .hbm, ⟨7, _⟩ => ⟨S2097152, .i32⟩
  | .hbm, ⟨8, _⟩ => ⟨S2097152, .i32⟩
  | .hbm, ⟨9, _⟩ => ⟨S_, .i32⟩
  | .hbm, ⟨10, _⟩ => ⟨S2097152, .i32⟩
  | .hbm, ⟨11, _⟩ => ⟨S2097152, .i1⟩
  | .hbm, ⟨12, _⟩ => ⟨S_, .i32⟩
  | .hbm, ⟨13, _⟩ => ⟨S2097152, .i32⟩
  | .hbm, ⟨14, _⟩ => ⟨S2097152, .i1⟩
  | .hbm, ⟨15, _⟩ => ⟨S2097152, .i1⟩
  | .hbm, ⟨16, _⟩ => ⟨S_, .i32⟩
  | .hbm, ⟨17, _⟩ => ⟨S2097152, .i32⟩
  | .hbm, ⟨18, _⟩ => ⟨S2097152, .i1⟩
  | .hbm, ⟨19, _⟩ => ⟨S2097152, .i1⟩
  | .hbm, ⟨20, _⟩ => ⟨S_, .i32⟩
  | .hbm, ⟨21, _⟩ => ⟨S2097152, .i32⟩
  | .hbm, ⟨22, _⟩ => ⟨S2097152, .i32⟩
  | .hbm, ⟨23, _⟩ => ⟨S2097152, .i32⟩
  | .hbm, ⟨24, _⟩ => ⟨S_, .i32⟩
  | .hbm, ⟨25, _⟩ => ⟨S_, .i32⟩
  | .hbm, ⟨26, _⟩ => ⟨S2097152, .i32⟩
  | .hbm, ⟨27, _⟩ => ⟨S2097152, .i32⟩
  | .hbm, ⟨28, _⟩ => ⟨S_, .i32⟩
  | .hbm, ⟨29, _⟩ => ⟨S362, .i32⟩
  | .hbm, ⟨30, _⟩ => ⟨S_, .i32⟩
  | .hbm, ⟨31, _⟩ => ⟨S_, .i32⟩
  | .hbm, ⟨32, _⟩ => ⟨S2097152, .i32⟩
  | .hbm, ⟨33, _⟩ => ⟨S2097152, .i32⟩
  | .hbm, ⟨34, _⟩ => ⟨S_, .i32⟩
  | .hbm, ⟨35, _⟩ => ⟨S2097152, .i32⟩
  | .hbm, ⟨36, _⟩ => ⟨S2097152, .i1⟩
  | .hbm, ⟨37, _⟩ => ⟨S_, .i32⟩
  | .hbm, ⟨38, _⟩ => ⟨S2097152, .i32⟩
  | .hbm, ⟨39, _⟩ => ⟨S2097152, .i32⟩
  | .hbm, ⟨40, _⟩ => ⟨S2097152, .i32⟩
  | .hbm, ⟨41, _⟩ => ⟨S2097152x1, .i32⟩
  | .hbm, ⟨42, _⟩ => ⟨S_, .i32⟩
  | .hbm, ⟨43, _⟩ => ⟨S2097152, .i32⟩
  | .hbm, ⟨44, _⟩ => ⟨S362, .i32⟩
  | .hbm, ⟨45, _⟩ => ⟨S361, .i32⟩
  | .hbm, ⟨46, _⟩ => ⟨S19x19, .i32⟩
  | .hbm, ⟨47, _⟩ => ⟨S19x19, .f32⟩
  | .hbm, ⟨48, _⟩ => ⟨S19x19, .i32⟩
  | .hbm, ⟨49, _⟩ => ⟨S19x19, .i32⟩
  | .hbm, ⟨50, _⟩ => ⟨S_, .i32⟩
  | .hbm, ⟨51, _⟩ => ⟨S19x19, .i32⟩
  | .hbm, ⟨52, _⟩ => ⟨S19x19, .i32⟩
  | .hbm, ⟨53, _⟩ => ⟨S19x19, .i1⟩
  | .hbm, ⟨54, _⟩ => ⟨S_, .f32⟩
  | .hbm, ⟨55, _⟩ => ⟨S_, .f32⟩
  | .hbm, ⟨56, _⟩ => ⟨S19x19, .f32⟩
  | .hbm, ⟨57, _⟩ => ⟨S19x19, .f32⟩
  | .hbm, ⟨58, _⟩ => ⟨S_, .f32⟩
  | .hbm, ⟨59, _⟩ => ⟨S19, .f32⟩
  | .hbm, ⟨60, _⟩ => ⟨S_, .f32⟩
  | .hbm, ⟨61, _⟩ => ⟨S19, .f32⟩
  | .hbm, ⟨62, _⟩ => ⟨S_, .f32⟩
  | .hbm, ⟨63, _⟩ => ⟨S19, .f32⟩
  | .hbm, ⟨64, _⟩ => ⟨S_, .f32⟩
  | .hbm, ⟨65, _⟩ => ⟨S19, .f32⟩
  | .hbm, ⟨66, _⟩ => ⟨S19, .f32⟩
  | .hbm, ⟨67, _⟩ => ⟨S19, .f32⟩
  | .hbm, ⟨68, _⟩ => ⟨S_, .f32⟩
  | .hbm, ⟨69, _⟩ => ⟨S19, .f32⟩
  | .hbm, ⟨70, _⟩ => ⟨S19, .f32⟩
  | .hbm, ⟨71, _⟩ => ⟨S19, .f32⟩
  | .hbm, ⟨72, _⟩ => ⟨S_, .f32⟩
  | .hbm, ⟨73, _⟩ => ⟨S19, .f32⟩
  | .hbm, ⟨74, _⟩ => ⟨S19, .f32⟩
  | .hbm, ⟨75, _⟩ => ⟨S19, .f32⟩
  | .hbm, ⟨76, _⟩ => ⟨S19, .f32⟩
  | .hbm, ⟨77, _⟩ => ⟨S_, .f32⟩
  | .hbm, ⟨78, _⟩ => ⟨S19, .f32⟩
  | .hbm, ⟨79, _⟩ => ⟨S19, .f32⟩
  | .hbm, ⟨80, _⟩ => ⟨S19, .f32⟩
  | .hbm, ⟨81, _⟩ => ⟨S19, .f32⟩
  | .hbm, ⟨82, _⟩ => ⟨S_, .f32⟩
  | .hbm, ⟨83, _⟩ => ⟨S19, .f32⟩
  | .hbm, ⟨84, _⟩ => ⟨S19, .i1⟩
  | .hbm, ⟨85, _⟩ => ⟨S19, .f32⟩
  | .hbm, ⟨86, _⟩ => ⟨S_, .f32⟩
  | .hbm, ⟨87, _⟩ => ⟨S19, .f32⟩
  | .hbm, ⟨88, _⟩ => ⟨S19, .i1⟩
  | .hbm, ⟨89, _⟩ => ⟨S19, .i1⟩
  | .hbm, ⟨90, _⟩ => ⟨S_, .f32⟩
  | .hbm, ⟨91, _⟩ => ⟨S19, .f32⟩
  | .hbm, ⟨92, _⟩ => ⟨S19, .f32⟩
  | .hbm, ⟨93, _⟩ => ⟨S19, .i1⟩
  | .hbm, ⟨94, _⟩ => ⟨S19, .i1⟩
  | .hbm, ⟨95, _⟩ => ⟨S_, .f32⟩
  | .hbm, ⟨96, _⟩ => ⟨S19, .f32⟩
  | .hbm, ⟨97, _⟩ => ⟨S19, .f32⟩
  | .hbm, ⟨98, _⟩ => ⟨S_, .i32⟩
  | .hbm, ⟨99, _⟩ => ⟨S1, .i32⟩
  | .hbm, ⟨100, _⟩ => ⟨S_, .f32⟩
  | .hbm, ⟨101, _⟩ => ⟨S19, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_c_5 : Ref sig .tc := ⟨.hbm, 30, rfl⟩
abbrev main_call2_v0 : Ref sig .tc := ⟨.hbm, 31, rfl⟩
abbrev main_call2_v1 : Ref sig .tc := ⟨.hbm, 32, rfl⟩
abbrev main_v16 : Ref sig .tc := ⟨.hbm, 33, rfl⟩
abbrev main_c_6 : Ref sig .tc := ⟨.hbm, 34, rfl⟩
abbrev main_v17 : Ref sig .tc := ⟨.hbm, 35, rfl⟩
abbrev main_v18 : Ref sig .tc := ⟨.hbm, 36, rfl⟩
abbrev main_c_7 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst : Ref sig .tc := ⟨.hbm, 54, rfl⟩
abbrev main_call3_v0 : Ref sig .tc := ⟨.hbm, 55, rfl⟩
abbrev main_call3_v1 : Ref sig .tc := ⟨.hbm, 56, rfl⟩
abbrev main_v33 : Ref sig .tc := ⟨.hbm, 57, rfl⟩
abbrev main_cst_10 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_cst_13 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_14 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_15 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_16 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_17 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_18 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_19 : Ref sig .tc := ⟨.hbm, 90, rfl⟩
abbrev main_call4_v0 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_20 : Ref sig .tc := ⟨.hbm, 95, rfl⟩
abbrev main_call5_v0 : Ref sig .tc := ⟨.hbm, 96, rfl⟩
abbrev main_v60 : Ref sig .tc := ⟨.hbm, 97, rfl⟩
abbrev main_c_21 : Ref sig .tc := ⟨.hbm, 98, rfl⟩
abbrev main_v61 : Ref sig .tc := ⟨.hbm, 99, rfl⟩
abbrev main_cst_22 : Ref sig .tc := ⟨.hbm, 100, rfl⟩
abbrev main_v62 : Ref sig .tc := ⟨.hbm, 101, rfl⟩

abbrev nD : Nat := 1
abbrev τ : Topo := Topo.v7x

variable {F : FTy → Type} [FloatOps F]
-- ==== Proof.Setup.lean ====
/- The program as its proof sees it: its threads' handshakes, its pipelines, and the ghost state both draw on. -/
module

public import proofs.«01_k».proof.Proof.Gen.KernelIdeal.Launch
public import proofs.«01_k».proof.Proof.Gen.KernelIdeal.Points
public import Idealize.ShloMosaic.Lib.SparseCore.Quiescent
public import Idealize.ShloMosaic.Lib.Pipeline.RegionsLoop

@[expose] public section

noncomputable section

namespace Cert.KernelIdeal.Launch

open Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels of the program without its SparseCore calls. -/
abbrev ΛP : Labels := Pipeline.Sig Λ₀ (Fin 3) fun p => (pcfgs (F := F) p).Adm
/-- Its two SparseCore calls. -/
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are the program's own, and outlive every call. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, the pipelines' rounds, and the counters of the tiles' own copies. -/
abbrev UH : Type := URounds (GSem nD τ sig) ℕ
abbrev UP : Type := UR sig nD τ
abbrev UU : Type := UH × (UP × Counters)

/-- The assertions of the proof. -/
abbrev MM (F : FTy → Type) : Type := MT nD τ sig (HIx 2) (Elt F) ℕ UU ℕ

/-- Where the handshakes' rounds lie in the ghost state, -/
def EH : Emb UH (MM F) :=
  (Emb.inl : Emb UH UU).trans (uEmb (nD := nD) (sig := sig) (Ix := HIx 2) (Val := Elt F) (Name := ℕ) (U := UU) (Lvl := ℕ)).toEmb
/-- and the pipelines'. -/
def EP : Emb UP (MM F) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance
instance : CountersIn UU := inferInstance

/-- No pipeline has a table to choose. -/
abbrev adm : (p : Fin 3) → (pcfgs (F := F) p).Adm := fun p => (cfgs p).toPCfg_adm

/-- What the TensorCore's thread may have waited on before call `n`: nothing above the handshakes of the calls before. -/
abbrev Waited (d : Dev nD) (n : ℕ) : Set (SemLoc sig × HIx 2) :=
  {p | (K (F := F)).lev (T d, p.1) p.2 ≤ 8 * n}

end Cert.KernelIdeal.Launch
-- ==== Proof.LabelValue.lean ====
/- The code of one pixel: which class is predicted, paired with the target class. -/
module

public import proofs.«01_k».proof.Proof.Gen.KernelIdeal
public import Idealize.ShloMosaic.Lib.Pipeline.Value
public import Idealize.ShloMosaic.Lib.ValueIdx

@[expose] public section

noncomputable section

namespace Cert.KernelIdeal.Label

open Idealize.ShloMosaic
open Facts₀ Facts

variable {F : FTy → Type} [FloatOps F]

/-- The largest of the scores `a 0`, …, `a k`, scanned in order; a later one wins only when it is greater. -/
def best (a : Nat → F .f32) : Nat → F .f32
  | 0 => a 0
  | k + 1 => Scalar.select (FloatOps.cmpf .ogt (a (k + 1)) (best a k)) (a (k + 1)) (best a k)

/-- The class at which that scan found it. -/
def label (a : Nat → F .f32) : Nat → BitVec 32
  | 0 => 0#32
  | k + 1 => Scalar.select (FloatOps.cmpf .ogt (a (k + 1)) (best a k)) (BitVec.ofNat 32 (k + 1)) (label a k)

/-- The code of a pixel from its predicted class and its target: `19 · target + predicted` for a target of 1 to 18, and
    361 for any other. -/
def pair (l t : BitVec 32) : BitVec 32 :=
  Scalar.select (IntOp.andi (IntOp.cmpi .ne t 0#32) (IntOp.andi (IntOp.cmpi .sge t 0#32) (IntOp.cmpi .slt t 19#32)))
    (IntOp.addi (IntOp.muli t 19#32) l) 361#32

/-- The code of a pixel from its nineteen scores and its target. -/
def code (a : Nat → F .f32) (t : BitVec 32) : BitVec 32 := pair (label a 18) t

/-- The class found is one of those scanned. -/
theorem label_le (a : Nat → F .f32) : ∀ k, k < 4294967296 → (label a k).toNat ≤ k
  | 0, _ => by simp [label]
  | k + 1, hk => by
    have ih := label_le a k (by omega)
    unfold label Scalar.select
    split
    · rw [BitVec.toNat_ofNat, Nat.mod_eq_of_lt (by omega)]
    · omega

/-- The code in plain terms. -/
theorem pair_toNat (l t : BitVec 32) (hl : l.toNat ≤ 18) :
    (pair l t).toNat = if 0 < t.toNat ∧ t.toNat < 19 then 19 * t.toNat + l.toNat else 361 := by
  have h1 : (IntOp.andi (IntOp.cmpi .ne t 0#32) (IntOp.andi (IntOp.cmpi .sge t 0#32) (IntOp.cmpi .slt t 19#32)) = 1)
      ↔ (0 < t.toNat ∧ t.toNat < 19) := by
    have e0 : (t != 0#32) = decide (0 < t.toNat) := by
      rw [Bool.eq_iff_iff, bne_iff_ne, decide_eq_true_iff, ne_eq, ← BitVec.toNat_inj]; simp [Nat.pos_iff_ne_zero]
    have e1 : ((0#32).sle t && t.slt 19#32) = decide (t.toNat < 19) := by
      rw [Bool.eq_iff_iff, Bool.and_eq_true, BitVec.sle_iff_toInt_le, BitVec.slt_iff_toInt_lt, decide_eq_true_iff,
        BitVec.toInt_eq_toNat_cond t]
      have := t.isLt
      simp only [show (0#32 : BitVec 32).toInt = 0 from rfl, show (19#32 : BitVec 32).toInt = 19 from rfl]
      split <;> omega
    have e : ∀ x y : Bool, IntOp.andi (BitVec.ofBool x) (BitVec.ofBool y) = BitVec.ofBool (x && y) := by decide
    unfold IntOp.cmpi
    simp only [e, e0, e1]
    by_cases h : 0 < t.toNat <;> by_cases h' : t.toNat < 19 <;> simp [h, h']
  unfold pair Scalar.select
  by_cases h : 0 < t.toNat ∧ t.toNat < 19
  · rw [if_pos (h1.mpr h), if_pos h]
    unfold IntOp.addi IntOp.muli
    rw [BitVec.toNat_add, BitVec.toNat_mul, show (19#32 : BitVec 32).toNat = 19 from rfl]
    omega
  · rw [if_neg fun hh => h (h1.mp hh), if_neg h]; rfl

/-- A code names one of the 361 pairs, or is 361. -/
theorem code_le (a : Nat → F .f32) (t : BitVec 32) : (code a t).toNat ≤ 361 := by
  have hl := label_le a 18 (by omega)
  unfold code
  rw [pair_toNat _ _ hl]
  split <;> omega

/-! ## A block of codes -/

/-- Where the score of class `k` of the block's pixel `y` lies; the pixels of 256 rows of 512 fill 1024 rows of 128. -/
def scoreAt (k : Nat) (y : S1024x128.Idx) : S1x19x256x512.Idx :=
  ValueIdx.ix4 0 ⟨k % 19, Nat.mod_lt _ (by omega)⟩ ⟨(128 * (y 0).val + (y 1).val) / 512 % 256, Nat.mod_lt _ (by omega)⟩
    ⟨(128 * (y 0).val + (y 1).val) % 512, Nat.mod_lt _ (by omega)⟩

/-- Where its target lies. -/
def targetAt (y : S1024x128.Idx) : S1x256x512.Idx :=
  ValueIdx.ix3 0 ⟨(128 * (y 0).val + (y 1).val) / 512 % 256, Nat.mod_lt _ (by omega)⟩
    ⟨(128 * (y 0).val + (y 1).val) % 512, Nat.mod_lt _ (by omega)⟩

/-- The codes of a block of pixels. -/
def blockCode (X : S1x19x256x512.Idx → F .f32) (T : S1x256x512.Idx → BitVec 32) : S1024x128.Idx → BitVec 32 :=
  fun y => code (fun k => X (scoreAt k y)) (T (targetAt y))

end Cert.KernelIdeal.Label
-- ==== Proof.Flat.lean ====
/- The codes of all the pixels, numbered image by image and row by row, and how the blocks lie among them. -/
module

public import proofs.«01_k».proof.Proof.LabelValue

@[expose] public section

noncomputable section

namespace Cert.KernelIdeal.Label

open Idealize.ShloMosaic

variable {F : FTy → Type} [FloatOps F]

/-- Where the score of class `k` of pixel `p` lies. -/
def scoreOf (p k : Nat) : S8x19x512x512.Idx :=
  ValueIdx.ix4 ⟨p / 262144 % 8, Nat.mod_lt _ (by omega)⟩ ⟨k % 19, Nat.mod_lt _ (by omega)⟩
    ⟨p / 512 % 512, Nat.mod_lt _ (by omega)⟩ ⟨p % 512, Nat.mod_lt _ (by omega)⟩

/-- Where its target lies. -/
def targetOf (p : Nat) : S8x512x512.Idx :=
  ValueIdx.ix3 ⟨p / 262144 % 8, Nat.mod_lt _ (by omega)⟩ ⟨p / 512 % 512, Nat.mod_lt _ (by omega)⟩
    ⟨p % 512, Nat.mod_lt _ (by omega)⟩

/-- The code of pixel `p`. -/
def codeAt (A : S8x19x512x512.Idx → F .f32) (B : S8x512x512.Idx → BitVec 32) (p : Nat) : BitVec 32 :=
  code (fun k => A (scoreOf p k)) (B (targetOf p))

/-- The codes of the first six images, 128 to a row. -/
def comb1 (A : S8x19x512x512.Idx → F .f32) (B : S8x512x512.Idx → BitVec 32) : S12288x128.Idx → BitVec 32 :=
  fun y => codeAt A B (128 * (y 0).val + (y 1).val)

/-- The codes of the last two. -/
def comb2 (A : S8x19x512x512.Idx → F .f32) (B : S8x512x512.Idx → BitVec 32) : S4096x128.Idx → BitVec 32 :=
  fun y => codeAt A B (1572864 + (128 * (y 0).val + (y 1).val))

/-- The block of codes computed from the half `h` of image `b`. -/
theorem blockCode_eq {A : S8x19x512x512.Idx → F .f32} {B : S8x512x512.Idx → BitVec 32} {b h : Nat} (hb : b < 8) (hh : h < 2)
    {e4 : S1x19x256x512.Idx → S8x19x512x512.Idx} {e3 : S1x256x512.Idx → S8x512x512.Idx}
    (h40 : ∀ x, (e4 x 0).val = b) (h41 : ∀ x, (e4 x 1).val = (x 1).val)
    (h42 : ∀ x, (e4 x 2).val = 256 * h + (x 2).val) (h43 : ∀ x, (e4 x 3).val = (x 3).val)
    (h30 : ∀ x, (e3 x 0).val = b) (h31 : ∀ x, (e3 x 1).val = 256 * h + (x 1).val) (h32 : ∀ x, (e3 x 2).val = (x 2).val)
    (y : S1024x128.Idx) (p : Nat) (hp : p = 262144 * b + 131072 * h + (128 * (y 0).val + (y 1).val)) :
    blockCode (fun x => A (e4 x)) (fun x => B (e3 x)) y = codeAt A B p := by
  have hy0 : (y 0).val < 1024 := (y 0).isLt
  have hy1 : (y 1).val < 128 := (y 1).isLt
  unfold blockCode codeAt
  have e1 : ∀ k, e4 (scoreAt k y) = scoreOf p k := fun k => funext fun a => Fin.ext (by
    match a with
    | ⟨0, _⟩ => exact (h40 _).trans (show b = p / 262144 % 8 by omega)
    | ⟨1, _⟩ => exact h41 _
    | ⟨2, _⟩ =>
      exact (h42 _).trans (show 256 * h + (128 * (y 0).val + (y 1).val) / 512 % 256 = p / 512 % 512 by omega)
    | ⟨3, _⟩ => exact (h43 _).trans (show (128 * (y 0).val + (y 1).val) % 512 = p % 512 by omega))
  have e2 : e3 (targetAt y) = targetOf p := funext fun a => Fin.ext (by
    match a with
    | ⟨0, _⟩ => exact (h30 _).trans (show b = p / 262144 % 8 by omega)
    | ⟨1, _⟩ =>
      exact (h31 _).trans (show 256 * h + (128 * (y 0).val + (y 1).val) / 512 % 256 = p / 512 % 512 by omega)
    | ⟨2, _⟩ => exact (h32 _).trans (show (128 * (y 0).val + (y 1).val) % 512 = p % 512 by omega))
  exact congrArg₂ code (funext fun k => congrArg A (e1 k)) (congrArg B e2)

/-- Every code is at most 361. -/
theorem codeAt_le (A : S8x19x512x512.Idx → F .f32) (B : S8x512x512.Idx → BitVec 32) (p : Nat) : (codeAt A B p).toNat ≤ 361 :=
  code_le _ _

end Cert.KernelIdeal.Label
-- ==== Proof.HistProg.lean ====
/- The SparseCore kernel's text, once, for both of its calls.  The printed body writes 384 stores of zeros, a loop
   of eight scatters a trip, and 24 sums of 16 rows one after the other; here each of the three is a recursion, with
   the number of rows a tile reads left open, and the two printed bodies are shown to be this one. -/
module

public import proofs.«01_k».proof.Proof.Gen.KernelIdeal

@[expose] public section

noncomputable section

namespace Cert.KernelIdeal.Hist

open Idealize.ShloMosaic Idealize.ShloMosaic.TcCoe
open Idealize.SL Idealize.SL.Sem
open Facts₀ Facts

variable {F : FTy → Type} [FloatOps F]

/-- The rectangle of sixteen columns (block `b`) of one row (`r`) of the sixteen histograms. -/
theorem inb_hist (r b : Nat) : ∀ a, (![r % 16, 16 * (b % 24)] : Fin 2 → Nat) a + S1x16.size a ≤ S16x384.size a := by
  intro a; fin_cases a <;> simp <;> omega

/-- Sixteen columns (block `b`) of one row (`r`) of the sixteen histograms. -/
abbrev histRow (r b : Nat) : Rect S16x384 := Rect.unit (s := S16x384) ![r % 16, 16 * (b % 24)] S1x16.size (inb_hist r b)

theorem inb_out (b : Nat) : ∀ a, (![b / 8 % 3, 16 * (b % 8)] : Fin 2 → Nat) a + S1x16.size a ≤ S3x128.size a := by
  intro a; fin_cases a <;> simp <;> omega

/-- The sixteen bins of block `b` in the tile's summed histogram, kept as three rows of 128. -/
abbrev outRow (b : Nat) : Rect S3x128 := Rect.unit (s := S3x128) ![b / 8 % 3, 16 * (b % 8)] S1x16.size (inb_out b)

section
variable [Facts] {c : Fin τ.nSC} {s : Fin τ.nSub}

/-- A program of the tile on SparseCore `c`, subcore `s`. -/
abbrev TileProg (F : FTy → Type) [FloatOps F] (c : Fin τ.nSC) (s : Fin τ.nSub) : Type _ :=
  Prog (TpuEff nD τ sig (Elt F) Λ₀ (.scVector c s)) PUnit

/-- `n` stores of sixteen zeros, from the `j`th sixteen on, each after a read nothing uses. -/
def zeros (arg5 : Memref sig .scVector .vmem S16x384 .f32) : Nat → Nat → TileProg F c s → TileProg F c s
  | 0, _, k => k
  | n + 1, j, k =>
    .op (.load arg5 (histRow (j / 24) j).toLoadRect (View.loadsAt_vmem h_S1x16)) fun _ =>
    .op (.store arg5 (histRow (j / 24) j)
      (shapeCast S1x16 (broadcast S16 (Scalar.ofBits (F := F) .f32 0x00000000#32)) shapeCasts_S16_S1x16) Finset.univ
      (View.stores_vmem_bits_univ h_S1x16 rfl) (.inl rfl)) fun _ =>
    zeros arg5 n (j + 1) k

/-- The lane numbers. -/
abbrev lanes : IVec S16 32 := iota .scVector S16 32 [0] iota_S16_d0_w32_scVector

/-- A slot of a trip: sixteen indices are read, checked, and one is added to each lane's histogram at its index. -/
def slot {m : Nat} (arg4 : Memref sig .scVector .vmem ⟨2, ![m, 128]⟩ .i32)
    (arg5 : Memref sig .scVector .vmem S16x384 .f32) (off : Fin 2 → Nat)
    (inb : ∀ a, off a + S1x16.size a ≤ (⟨2, ![m, 128]⟩ : Shape).size a) (k : TileProg F c s) : TileProg F c s :=
  .op (.load arg4 (Rect.unit (s := ⟨2, ![m, 128]⟩) off S1x16.size inb).toLoadRect (View.loadsAt_vmem h_S1x16))
    fun (v : Vec F S1x16 .i32) =>
  .op (TpuEff.assume (k1_chk1 lanes (shapeCast S16 v shapeCasts_S1x16_S16))
    (k1_chk1.dec lanes (shapeCast S16 v shapeCasts_S1x16_S16))) fun h =>
  (SparseCore.vectorStoreIdx arg5 ![lanes, shapeCast S16 v shapeCasts_S1x16_S16]
    (broadcast S16 (Scalar.ofBits (F := F) .f32 0x3F800000#32)) (fun _ => 1#1) true (k1_idx1_inb _ _ h.down)
    (View.stores_vmem_bits_univ h_S16x384 rfl)).bind fun _ => k

/-- `n` slots of a trip, from the `j`th on. -/
def slots {m : Nat} (arg4 : Memref sig .scVector .vmem ⟨2, ![m, 128]⟩ .i32)
    (arg5 : Memref sig .scVector .vmem S16x384 .f32) (off : Fin 8 → Fin 2 → Nat)
    (inb : ∀ j a, off j a + S1x16.size a ≤ (⟨2, ![m, 128]⟩ : Shape).size a) : Nat → Nat → TileProg F c s → TileProg F c s
  | 0, _, k => k
  | n + 1, j, k => slot arg4 arg5 (off (Fin.ofNat 8 j)) (inb (Fin.ofNat 8 j)) (slots arg4 arg5 off inb n (j + 1) k)

/-- Block `b` of rows `r`, `r + 1`, … is read and added to `acc`, `n` rows in all. -/
def sumRows (arg5 : Memref sig .scVector .vmem S16x384 .f32) (b : Nat) :
    Nat → Nat → FVec F S16 .f32 → (FVec F S16 .f32 → TileProg F c s) → TileProg F c s
  | 0, _, acc, k => k acc
  | n + 1, r, acc, k =>
    .op (.load arg5 (histRow r b).toLoadRect (View.loadsAt_vmem h_S1x16)) fun v =>
    sumRows arg5 b n (r + 1) (addf acc (shapeCast S16 v shapeCasts_S1x16_S16)) k

/-- `n` blocks, from the `b`th on: the sixteen rows are summed and the sum stored. -/
def blocks (arg5 : Memref sig .scVector .vmem S16x384 .f32) (arg6 : Memref sig .scVector .vmem S3x128 .f32) :
    Nat → Nat → TileProg F c s → TileProg F c s
  | 0, _, k => k
  | n + 1, b, k =>
    .op (.load arg5 (histRow 0 b).toLoadRect (View.loadsAt_vmem h_S1x16)) fun v =>
    sumRows arg5 b 15 1 (shapeCast S16 v shapeCasts_S1x16_S16) fun acc =>
    .op (.load arg6 (outRow b).toLoadRect (View.loadsAt_vmem h_S1x16)) fun _ =>
    .op (.store arg6 (outRow b) (shapeCast S1x16 acc shapeCasts_S16_S1x16) Finset.univ
      (View.stores_vmem_bits_univ h_S1x16 rfl) (.inl rfl)) fun _ =>
    blocks arg5 arg6 n (b + 1) k

/-- The whole body: the tile's rows of indices come in, the sixteen histograms are zeroed, counted into and summed,
    and the sum goes out to the tile's three rows of the result. -/
def prog {m : Nat} {src : Memref sig .scVector .hbm ⟨2, ![m, 128]⟩ .i32}
    {arg4 : Memref sig .scVector .vmem ⟨2, ![m, 128]⟩ .i32} {dst : Memref sig .scVector .hbm S3x128 .f32}
    {arg5 : Memref sig .scVector .vmem S16x384 .f32} {arg6 : Memref sig .scVector .vmem S3x128 .f32}
    (hsrc : src.view.WordExact) (harg4 : arg4.view.WordExact) (harg6 : arg6.view.WordExact) (hdst : dst.view.WordExact)
    (ℓ : Scf.Loop 32) (hℓ : ℓ.OK) (off : Fin ℓ.trips → Fin 8 → Fin 2 → Nat)
    (inb : ∀ t j a, off t j a + S1x16.size a ≤ (⟨2, ![m, 128]⟩ : Shape).size a) (r0 r1 : DmaSems sig S_) : TileProg F c s :=
  .op (.enqueueDma src (.here arg4) (.dma r0.sem) hsrc harg4 ⟨Or.inl rfl, trivial⟩) fun _ =>
  .op (.waitDma2 r0.sem src arg4 hsrc harg4) fun _ =>
  zeros arg5 384 0 <|
  (Scf.Loop.for ℓ hℓ ⟨⟩ fun t _ => slots arg4 arg5 (off t) (inb t) 8 0 (.ret ⟨⟩)).bind fun _ =>
  blocks arg5 arg6 24 0 <|
  .op (.enqueueDma arg6 (.here dst) (.dma r1.sem) harg6 hdst ⟨Or.inl rfl, trivial⟩) fun _ =>
  .op (.waitDma2 r1.sem arg6 dst harg6 hdst) fun _ => .ret ⟨⟩

end
end Cert.KernelIdeal.Hist
-- ==== Proof.HistText.lean ====
/- The two printed SparseCore bodies are the one body of HistProg: the first at 384 rows a tile, the second at 128. -/
module

public import proofs.«01_k».proof.Proof.HistProg
public import Idealize.ShloMosaic.Lib.Pipeline.Regions

@[expose] public section

noncomputable section

namespace Cert.KernelIdeal.Hist

open Idealize.ShloMosaic Idealize.ShloMosaic.TcCoe
open Idealize.SL Idealize.SL.Sem
open Facts₀ Facts

variable {F : FTy → Type} [FloatOps F]
variable [Facts]

/-- The first call's eight reads of a trip, at columns 0, 16, …, 112 of the trip's row. -/
abbrev off1 (t : Fin k1_t1_loop.trips) : Fin 8 → Fin 2 → Nat :=
  ![k1_off2 t, k1_off3 t, k1_off4 t, k1_off5 t, k1_off6 t, k1_off7 t, k1_off8 t, k1_off9 t]

theorem inb1 : ∀ t j a, off1 t j a + S1x16.size a ≤ S384x128.size a := by
  intro t j a
  fin_cases j
  · exact k1_off2_inb t a
  · exact k1_off3_inb t a
  · exact k1_off4_inb t a
  · exact k1_off5_inb t a
  · exact k1_off6_inb t a
  · exact k1_off7_inb t a
  · exact k1_off8_inb t a
  · exact k1_off9_inb t a

/-- The second call's eight reads of a trip, at columns 0, 16, …, 112 of the trip's row. -/
abbrev off3 (t : Fin k3_t1_loop.trips) : Fin 8 → Fin 2 → Nat :=
  ![k3_off2 t, k3_off3 t, k3_off4 t, k3_off5 t, k3_off6 t, k3_off7 t, k3_off8 t, k3_off9 t]

theorem inb3 : ∀ t j a, off3 t j a + S1x16.size a ≤ S128x128.size a := by
  intro t j a
  fin_cases j
  · exact k3_off2_inb t a
  · exact k3_off3_inb t a
  · exact k3_off4_inb t a
  · exact k3_off5_inb t a
  · exact k3_off6_inb t a
  · exact k3_off7_inb t a
  · exact k3_off8_inb t a
  · exact k3_off9_inb t a

/-- A pair taken apart by a match is the pair's two projections. -/
theorem psigma_rec {α : Sort*} {β : α → Sort*} {γ : Sort*} (f : (a : α) → β a → γ) (x : PSigma β) :
    @PSigma.rec α β (fun _ => γ) f x = f x.1 x.2 := rfl

/-- The first call's printed body is the common body at 384 rows a tile. -/
theorem body1_eq (i : grid1.Coords) (arg2 : Memref sig .scVector .hbm S12288x128 .i32) (harg2 : arg2.IsWhole)
    (arg3 : Memref sig .scVector .hbm S96x128 .f32) (harg3 : arg3.IsWhole)
    (arg4 : Memref sig .scVector .vmem S384x128 .i32) (harg4 : arg4.IsWhole)
    (arg5 : Memref sig .scVector .vmem S16x384 .f32) (harg5 : arg5.IsWhole)
    (arg6 : Memref sig .scVector .vmem S3x128 .f32) (harg6 : arg6.IsWhole) (r0 r1 : DmaSems sig S_) :
    cc1_hist_call (F := F) i arg2 harg2 arg3 harg3 arg4 harg4 arg5 harg5 arg6 harg6 r0 r1
      = prog (arg5 := arg5) (src := arg2.slice (Rect.unit (s := S12288x128) (k1_off1 i) S384x128.size (k1_off1_inb i)) (fun _ => rfl))
          (dst := arg3.slice (Rect.unit (s := S96x128) (k1_off10 i) S3x128.size (k1_off10_inb i)) (fun _ => rfl))
          (View.wordExact_bits rfl) harg4.wordExact harg6.wordExact (View.wordExact_bits rfl)
          k1_t1_loop k1_t1_ok
          off1 inb1 r0 r1 := by
  unfold cc1_hist_call k1_part80 k1_part39
  simp only [bind_assoc, psigma_rec]
  chain_rfl

/-- The second call's printed body is the common body at 128 rows a tile. -/
theorem body3_eq (i : grid3.Coords) (arg2 : Memref sig .scVector .hbm S4096x128 .i32) (harg2 : arg2.IsWhole)
    (arg3 : Memref sig .scVector .hbm S96x128 .f32) (harg3 : arg3.IsWhole)
    (arg4 : Memref sig .scVector .vmem S128x128 .i32) (harg4 : arg4.IsWhole)
    (arg5 : Memref sig .scVector .vmem S16x384 .f32) (harg5 : arg5.IsWhole)
    (arg6 : Memref sig .scVector .vmem S3x128 .f32) (harg6 : arg6.IsWhole) (r0 r1 : DmaSems sig S_) :
    cc3_hist_call (F := F) i arg2 harg2 arg3 harg3 arg4 harg4 arg5 harg5 arg6 harg6 r0 r1
      = prog (arg5 := arg5) (src := arg2.slice (Rect.unit (s := S4096x128) (k3_off1 i) S128x128.size (k3_off1_inb i)) (fun _ => rfl))
          (dst := arg3.slice (Rect.unit (s := S96x128) (k3_off10 i) S3x128.size (k3_off10_inb i)) (fun _ => rfl))
          (View.wordExact_bits rfl) harg4.wordExact harg6.wordExact (View.wordExact_bits rfl)
          k3_t1_loop k3_t1_ok
          off3 inb3 r0 r1 := by
  unfold cc3_hist_call k3_part80 k3_part39
  simp only [bind_assoc, psigma_rec]
  chain_rfl

end Cert.KernelIdeal.Hist
-- ==== Proof.HistValue.lean ====
/- What one tile's sixteen histograms hold as its rows of indices are counted, and what its summed histogram holds:
   two recursions over any float values. -/
module

public import proofs.«01_k».proof.Proof.HistProg
public import Idealize.ShloMosaic.Lib.Pipeline.Value
public import Idealize.ShloMosaic.Lib.ValueIdx

@[expose] public section

noncomputable section

namespace Cert.KernelIdeal.Hist

open Idealize.ShloMosaic
open Facts₀ Facts

variable {F : FTy → Type} [FloatOps F]

/-- The float zero the histograms start at. -/
abbrev zero : F .f32 := Scalar.ofBits (F := F) .f32 0x00000000#32
/-- The float one each index adds. -/
abbrev one : F .f32 := Scalar.ofBits (F := F) .f32 0x3F800000#32

/-- One scatter: lane `l` of sixteen adds one to its histogram at the index `ix l`. -/
def bump (X : S16x384.Idx → F .f32) (ix : Nat → BitVec 32) : S16x384.Idx → F .f32 :=
  fun y => if (ix (y 0).val).toNat = (y 1).val then Elt.idxAdd (F := F) .f32 (X y) one else X y

/-- The sixteen histograms after the first `p` groups of sixteen indices; `C r k` is the index in row `r`, column `k`
    of the tile's rows. Group `p` is columns `16 (p mod 8)` to `16 (p mod 8) + 15` of row `p / 8`. -/
def tally (C : Nat → Nat → BitVec 32) : Nat → S16x384.Idx → F .f32
  | 0 => fun _ => zero
  | p + 1 => bump (tally C p) fun l => C (p / 8) (16 * (p % 8) + l)

/-- Histogram `r`'s bin `j`. -/
abbrev bin (r j : Nat) : S16x384.Idx := ValueIdx.ix2 ⟨r % 16, Nat.mod_lt _ (by omega)⟩ ⟨j % 384, Nat.mod_lt _ (by omega)⟩

/-- Bin `j` of histograms `0` to `n`, added up in order. -/
def colSum (X : S16x384.Idx → F .f32) (j : Nat) : Nat → F .f32
  | 0 => X (bin 0 j)
  | n + 1 => FloatOps.addf (colSum X j n) (X (bin (n + 1) j))

/-- A tile's summed histogram, three rows of 128 bins, from its `m` rows of indices. -/
def tileHist (m : Nat) (C : Nat → Nat → BitVec 32) : S3x128.Idx → F .f32 :=
  fun y => colSum (tally C (8 * m)) (128 * (y 0).val + (y 1).val) 15

/-- Steps over distinct rows, one a row: each element is changed once if its row comes up, and otherwise kept. -/
theorem foldl_rows (stp : (S16x384.Idx → F .f32) → Fin 16 → S16x384.Idx → F .f32) (P : S16x384.Idx → Prop)
    [DecidablePred P] (inc : F .f32 → F .f32)
    (h : ∀ g k y, stp g k y = if (y 0).val = k.val ∧ P y then inc (g y) else g y) (y : S16x384.Idx) :
    ∀ (L : List (Fin 16)) (X : S16x384.Idx → F .f32), L.Nodup →
      L.foldl stp X y = if (∃ k ∈ L, (y 0).val = k.val) ∧ P y then inc (X y) else X y
  | [], X, _ => by simp
  | k :: L, X, hL => by
    have hk := List.nodup_cons.mp hL
    rw [List.foldl_cons, foldl_rows stp P inc h y L _ hk.2, h]
    by_cases h1 : (y 0).val = k.val
    · have h2 : ¬∃ k' ∈ L, (y 0).val = k'.val := by
        rintro ⟨k', hk', e⟩
        exact hk.1 (Fin.ext (h1.symm.trans e) ▸ hk')
      simp [h1, h2]
      intro x hx e
      exact absurd ⟨x, hx, h1.trans e⟩ h2
    · simp [h1]

/-- The scatter of a slot is one `bump`. -/
theorem storeIdx_lanes (X : S16x384.Idx → F .f32) (v : IVec S16 32)
    (h : ∀ a x, ((![lanes, v] : Fin 2 → IVec S16 32) a x).toNat < S16x384.size a) :
    storeIdx (F := F) (e := .f32) (s := S16x384) X ![lanes, v] (broadcast S16 (one : F .f32)) (fun _ => 1#1) true h
      = bump X fun l => v (ValueIdx.ix1 (Fin.ofNat 16 l)) := by
  funext y
  have hy : (y 0).val < 16 := (y 0).isLt
  unfold storeIdx bump
  refine (foldl_rows _ (fun y => (v (ValueIdx.ix1 (Fin.ofNat 16 (y 0).val))).toNat = (y 1).val)
    (fun z => Elt.idxAdd (F := F) .f32 z one) ?_ y (List.finRange 16) X (List.nodup_finRange 16)).trans ?_
  · intro g k y
    have hx : (Shape.ofLane k : S16.Idx) = ValueIdx.ix1 k := by
      funext a; fin_cases a; rfl
    have hl : (lanes (Shape.ofLane k : S16.Idx)).toNat = k.val := by
      rw [hx]; unfold lanes; rw [iota_single_apply]
      simp [ValueIdx.ix1]; omega
    have h0 : (idxAt (s := S16x384) ![lanes, v] h (Shape.ofLane k) 0).val = k.val := hl
    have h1 : (idxAt (s := S16x384) ![lanes, v] h (Shape.ofLane k) 1).val = (v (ValueIdx.ix1 k)).toNat := by rw [← hx]; rfl
    simp only [if_true, Fin.forall_fin_two, h0, h1]
    rw [if_pos (show (1#1 : BitVec 1) = 1 from rfl)]
    by_cases e0 : (y 0).val = k.val
    · have hk : Fin.ofNat 16 (y 0).val = k := by rw [e0]; exact Fin.ext (by simp)
      by_cases e1 : (y 1).val = (v (ValueIdx.ix1 k)).toNat
      · have hy' : idxAt (s := S16x384) ![lanes, v] h (Shape.ofLane k) = y := by
          funext a; fin_cases a
          · exact Fin.ext (h0.trans e0.symm)
          · exact Fin.ext (h1.trans e1.symm)
        rw [if_pos ⟨e0, e1⟩, if_pos ⟨e0, by rw [hk]; exact e1.symm⟩, hy']; rfl
      · rw [if_neg fun hh => e1 hh.2, if_neg fun hh => e1 (by rw [← hk]; exact hh.2.symm)]
    · rw [if_neg fun hh => e0 hh.1, if_neg fun hh => e0 hh.1]
  · have : ∃ k ∈ List.finRange 16, (y 0).val = k.val := ⟨⟨_, hy⟩, List.mem_finRange _, rfl⟩
    by_cases e : (v (ValueIdx.ix1 (Fin.ofNat 16 (y 0).val))).toNat = (y 1).val
    · rw [if_pos ⟨this, e⟩, if_pos e]
    · rw [if_neg fun hh => e hh.2, if_neg e]

end Cert.KernelIdeal.Hist
-- ==== Proof.OwnsRules.lean ====
/- Reading, writing and scattering into a memref held at known contents (`owns`): what is read is the contents at the
   rectangle's places, and a write leaves any contents that agree with the written vector on the rectangle and with
   the old contents off it. -/
module

public import Idealize.ShloMosaic.Lib.Memref
public import Idealize.ShloMosaic.Lib.WordExact
public import Idealize.ShloMosaic.Lib.Transfers
public import Idealize.ShloMosaic.Lib.SparseCore.Ops

@[expose] public section

noncomputable section

namespace Cert.Owns

open Idealize.ShloMosaic
open Idealize.SL Idealize.SL.Sem Idealize.SL.ProofMode Idealize.SL.RA
open Idealize.SL.BI (sProp)
open scoped Idealize.SL.BI
open Idealize.SL.BI.BIBase Idealize.SL.BI.Laws

variable {nD : Nat} {τ : Topo} {sig : RefSig} {Ix : Type} [DecidableEq Ix] {F : FTy → Type} [FloatOps F]
variable {Name : Type} [DecidableEq Name] {U : Type} [URA U] {Lvl : Type} [Preorder Lvl] {Λ : Labels}
local notation "𝕄" => MT nD τ sig Ix (Elt F) Name U Lvl
variable {defs : Defs nD τ sig (Elt F) Λ} {𝒱 : Variants} {c : Thread nD τ} {bd : Option 𝒱.V} {E : Set Name} {α : Type}
variable {s : Shape} {e : EltTy} {Q : α → sProp (MT nD τ sig Ix (Elt F) Name U Lvl)}

/-- A read of a rectangle of a memref held at `X` gives `X` at the rectangle's places. -/
theorem load {cs : CoreSpace} {m : Memref sig c.2.kind cs s e} {r : Rect s} {hl : m.view.LoadsAt r} {q : PosShare TreeShare}
    {X : s.Idx → Elt F e} {k : (r.shape.Idx → Elt F e) → Prog (TpuEff nD τ sig (Elt F) Λ c.2) α} :
    (owns c m q X : sProp 𝕄)
      ⊢ iprop((owns c m q X -∗ wp frame (wpE defs 𝒱 c bd) E (k fun x => X (r.emb x)) Q)
        -∗ wp frame (wpE defs 𝒱 c bd) E (.op (.load m r hl) k) Q) := by
  unfold owns
  iintro ⟨%f, %hf, H⟩ Hk
  subst hf
  iapply (wp_load_rect (defs := defs) 𝒱 c bd E (Q := Q) (m := m) (r := r) (k := k) (S := m.view.set) (f := f) (q := q)
    (View.set_slice_subset _ r)) $$ H
  iintro H
  iapply Hk
  iexists f
  isplitr
  · ipureintro; rfl
  · iexact H

/-- A write of a rectangle of a memref held at `X` leaves it at any `Y` that is the written vector on the rectangle and
    `X` off it. -/
theorem store {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {X Y : s.Idx → Elt F e} {k : PUnit → Prog (TpuEff nD τ sig (Elt F) Λ c.2) α}
    (h1 : ∀ x, Y (r.emb x) = w x) (h2 : ∀ y, (∀ x, r.emb x ≠ y) → Y y = X y) :
    (owns c m fullShare X : sProp 𝕄)
      ⊢ iprop((owns c m fullShare Y -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store (defs := defs) 𝒱 c bd E (Q := Q) (m := m) (r := r) (k := k) (S := m.view.set) (f := f)
    (View.set_slice_subset _ r)) $$ H
  iintro H
  iapply Hk
  iexists ((m.access r).write (Elt F) f w Finset.univ)
  isplitr
  · ipureintro
    funext y
    by_cases hy : ∃ x, r.emb x = y
    · obtain ⟨x, rfl⟩ := hy
      rw [View.read_slice_write_emb r f w (Finset.mem_univ x), h1]
    · rw [View.read_slice_write_of_not_mem r f w Finset.univ (by
        intro hm'
        obtain ⟨x, -, hx'⟩ := Finset.mem_map.mp hm'
        exact hy ⟨x, hx'⟩), hf, h2 y fun x hx' => hy ⟨x, hx'⟩]
  · iexact H

/-- A rectangle of an array's own sizes is the whole array: each place lies at itself. -/
theorem unit_emb {s : Shape} {off : Fin s.rank → Nat} (inb : ∀ a, off a + s.size a ≤ s.size a) (x : s.Idx) :
    (Rect.unit (s := s) off s.size inb).emb x = x := by
  funext a
  refine Fin.ext ?_
  have h0 := inb a
  rw [Rect.emb_apply]
  show off a + 1 * (x a).val = (x a).val
  omega

/-- A read of a whole memref held at `X` gives `X`. -/
theorem loadWhole {cs : CoreSpace} {m : Memref sig c.2.kind cs s e} {off : Fin s.rank → Nat} {inb : ∀ a, off a + s.size a ≤ s.size a}
    {hl : m.view.LoadsAt (Rect.unit (s := s) off s.size inb).toLoadRect} {q : PosShare TreeShare}
    {X : s.Idx → Elt F e} {k : (s.Idx → Elt F e) → Prog (TpuEff nD τ sig (Elt F) Λ c.2) α} :
    (owns c m q X : sProp 𝕄)
      ⊢ iprop((owns c m q X -∗ wp frame (wpE defs 𝒱 c bd) E (k X) Q)
        -∗ wp frame (wpE defs 𝒱 c bd) E (.op (.load m (Rect.unit (s := s) off s.size inb).toLoadRect hl) k) Q) := by
  have h := load (defs := defs) (𝒱 := 𝒱) (c := c) (bd := bd) (E := E) (Q := Q) (m := m) (r := Rect.unit (s := s) off s.size inb)
    (hl := hl) (q := q) (X := X) (k := k)
  rwa [show (fun x => X ((Rect.unit (s := s) off s.size inb).emb x)) = X from funext fun x => congrArg X (unit_emb inb x)] at h

/-- A write of a whole memref leaves it at the written vector. -/
theorem storeWhole {cs : CoreSpace} {m : Memref sig c.2.kind cs s e} {off : Fin s.rank → Nat} {inb : ∀ a, off a + s.size a ≤ s.size a}
    {w : s.Idx → Elt F e} {hx : (m.access (Rect.unit (s := s) off s.size inb)).Stores Finset.univ}
    {hm : (Finset.univ : Finset s.Idx) = Finset.univ ∨ ∀ a, (Rect.unit (s := s) off s.size inb).stride a = 1}
    {X : s.Idx → Elt F e} {k : PUnit → Prog (TpuEff nD τ sig (Elt F) Λ c.2) α} :
    (owns c m fullShare X : sProp 𝕄)
      ⊢ iprop((owns c m fullShare w -∗ wp frame (wpE defs 𝒱 c bd) E (k ⟨⟩) Q)
        -∗ wp frame (wpE defs 𝒱 c bd) E (.op (.store m (Rect.unit (s := s) off s.size inb) w Finset.univ hx hm) k) Q) :=
  store (fun x => congrArg w (unit_emb inb x)) fun y hy => absurd (unit_emb inb y) (hy y)

/-- A scatter into a memref held at `X` leaves it at the scatter of `X`. -/
theorem storeIdx {d : Fin 1 → Nat} {m : Memref sig c.2.kind .vmem s e} {idxs : Fin s.rank → IVec ⟨1, d⟩ 32}
    {v : Vec F ⟨1, d⟩ e} {mask : IVec ⟨1, d⟩ 1} {add : Bool} {h : ∀ a x, (idxs a x).toNat < s.size a}
    {hs : (m.access (.whole s)).Stores Finset.univ} {X : s.Idx → Elt F e}
    {k : PUnit → Prog (TpuEff nD τ sig (Elt F) Λ c.2) α} :
    (owns c m fullShare X : sProp 𝕄)
      ⊢ iprop((owns c m fullShare (Idealize.ShloMosaic.storeIdx X idxs v mask add h)
            -∗ wp frame (wpE defs 𝒱 c bd) E (k ⟨⟩) Q)
        -∗ wp frame (wpE defs 𝒱 c bd) E ((SparseCore.vectorStoreIdx m idxs v mask add h hs).bind k) Q) := by
  have hset : (m.access (.whole s)).set = m.view.set := View.set_slice_rectWhole m.view
  have hemb : ∀ x, (Rect.whole s).emb x = x := fun x => by funext a; exact Fin.ext (by simp [Rect.whole, Rect.emb_apply])
  unfold owns
  iintro ⟨%f, %hf, H⟩ Hk
  have hr : (m.access (.whole s)).read (Elt F) f = X := by
    rw [← hf]; funext x; exact congrArg (m.view.read (Elt F) f) (hemb x)
  iapply (SparseCore.wp_vectorStoreIdx (defs := defs) 𝒱 c bd E (Q := Q) (base := m) (idxs := idxs) (v := v) (mask := mask) (add := add)
    (h := h) (hs := hs) (k := k) (f := f)) $$ [H]
  · rw [hset]; iexact H
  rw [hset, hr]
  iintro H
  iapply Hk
  iexists ((m.access (.whole s)).write (Elt F) f (Idealize.ShloMosaic.storeIdx X idxs v mask add h) Finset.univ)
  isplitr
  · ipureintro
    funext y
    have := View.read_slice_write_emb (v := m.view) (Rect.whole s) f (Idealize.ShloMosaic.storeIdx X idxs v mask add h)
      (Finset.mem_univ y)
    rwa [hemb] at this
  · iexact H

/-- A copy within the thread's reach and the wait for it: the target ends at the source's contents, the source as it was,
    the semaphore's counter at zero again. -/
theorem copyWait [CountersIn U] [Infinite Name] {sp sp' : Space} {src : Memref sig c.2.kind sp s e}
    {dst : Memref sig c.2.kind sp' s e} {sem : DmaSem sig} {hsrc : src.view.WordExact} {hdst : dst.view.WordExact}
    {hsem : DmaTarget.Typed (nD := nD) sp (.dma sem) (.here dst)} {q : PosShare TreeShare} {X Y : s.Idx → Elt F e} (ι : Ix)
    {O : CellTallies nD τ sig Ix} {W : Waits sig Ix} {k : PUnit → Prog (TpuEff nD τ sig (Elt F) Λ c.2) α}
    (hpos : 0 < dst.view.dmaCredit) :
    iprop(owns c src q X ∗ owns c dst fullShare Y ∗ semVal (c, .dma sem) 0 ∗ owes c O W ∗ MayWait c (.dma sem) ι O : sProp 𝕄)
      ⊢ iprop((iprop(owns c src q X ∗ owns c dst fullShare X ∗ semVal (c, .dma sem) 0
            ∗ owes c O (insert (SemLoc.dma sem, ι) W)) -∗ wp frame (wpE defs 𝒱 c bd) Set.univ (k ⟨⟩) Q)
        -∗ wp frame (wpE defs 𝒱 c bd) Set.univ (.op (.enqueueDma src (.here dst) (.dma sem) hsrc hdst hsem) fun _ =>
            .op (.waitDma2 sem src dst hsrc hdst) k) Q) := by
  unfold owns
  iintro ⟨⟨%f, %hf, Hs⟩, ⟨%g, %hg, Hd⟩, Hv, HO, Hm⟩ Hk
  subst hf
  iapply (Transfers.wp_dmaLocal countersEmb 𝒱 c bd (Q := Q) (src := src) (dst := dst) (via := .same) (sm := .dma sem)
    (hsrc := hsrc) (hdst := hdst) (hsem := hsem) (q := q) (fs := f) (Sd := dst.view.set) (fd := g)
    (k := fun _ => .op (.waitDma2 sem src dst hsrc hdst) k) ι dst.view.dmaCredit rfl hpos subset_rfl) $$ [Hs Hd Hv]
  · isplitl [Hs]; · iexact Hs
    isplitl [Hd]; · iexact Hd
    iexact Hv
  iintro HF
  iapply (Transfers.wp_waitLocalO countersEmb 𝒱 c bd (Q := Q) (srcw := src) (dstw := dst) (hsrc := hsrc) (hdst := hdst)
    (k := k) ι rfl) $$ [HF HO Hm]
  · isplitl [HF]; · iexact HF
    isplitl [HO]; · iexact HO
    iexact Hm
  iintro ⟨⟨Hd, Hs⟩, Hv, HO⟩
  iapply Hk
  isplitl [Hs]
  · iexists f; isplitr
    · ipureintro; rfl
    · iexact Hs
  isplitl [Hd]
  · iexists (dst.view.write (Elt F) g (ReadAs.same.apply (src.view.read (Elt F) f)) Finset.univ); isplitr
    · ipureintro; exact View.read_write_univ _ _
    · iexact Hd
  isplitl [Hv]; · iexact Hv
  iexact HO

end Cert.Owns
-- ==== Proof.HistRun.lean ====
/- The SparseCore body run once, at a symbolic tile: from the tile's rows of indices to its summed histogram. -/
module

public import proofs.«01_k».proof.Proof.HistValue
public import proofs.«01_k».proof.Proof.OwnsRules

@[expose] public section

noncomputable section

namespace Cert.KernelIdeal.Hist

open Idealize.ShloMosaic Idealize.ShloMosaic.TcCoe
open Idealize.SL Idealize.SL.Sem Idealize.SL.ProofMode Idealize.SL.RA
open Idealize.SL.BI (sProp)
open scoped Idealize.SL.BI
open Idealize.SL.BI.BIBase Idealize.SL.BI.Laws
open Facts₀ Facts

variable {Ix : Type} [DecidableEq Ix] {F : FTy → Type} [FloatOps F]
variable {Name : Type} [DecidableEq Name] {U : Type} [URA U] {Lvl : Type} [Preorder Lvl]
local notation "𝕄" => MT nD τ sig Ix (Elt F) Name U Lvl
variable {defs : Defs nD τ sig (Elt F) Λ₀} {𝒱 : Variants} {bd : Option 𝒱.V} {E : Set Name}
variable {d : Dev nD} {c : Fin τ.nSC} {s : Fin τ.nSub} {Q : PUnit → sProp (MT nD τ sig Ix (Elt F) Name U Lvl)}

/-- The tile's thread. -/
abbrev tile (d : Dev nD) (c : Fin τ.nSC) (s : Fin τ.nSub) : Thread nD τ := (d, .scVector c s)

/-! ## Places -/

theorem histRow_emb (r b : Nat) (x : S1x16.Idx) : (histRow r b).emb x = bin r (16 * (b % 24) + (x 1).val) := by
  have hx0 : (x 0).val < 1 := (x 0).isLt
  have hx1 : (x 1).val < 16 := (x 1).isLt
  funext a
  apply Fin.ext
  rw [Rect.emb_apply]
  fin_cases a <;> simp [bin, ValueIdx.ix2] <;> omega

/-- A vector of sixteen stored as one row of sixteen, read at its column. -/
theorem cast_row {α : Type} (v : S16.Idx → α) (x : S1x16.Idx) :
    shapeCast S1x16 v shapeCasts_S16_S1x16 x = v (ValueIdx.ix1 (x 1)) :=
  (shapeCast_addUnit_apply ![16] v shapeCasts_S16_S1x16 x).trans (congrArg v (by funext a; fin_cases a; rfl))

/-- A row of sixteen read as a vector of sixteen. -/
theorem cast_vec {α : Type} (v : S1x16.Idx → α) (l : S16.Idx) :
    shapeCast S16 v shapeCasts_S1x16_S16 l = v (ValueIdx.ix2 0 (l 0)) :=
  (shapeCast_dropUnit_apply ![16] v shapeCasts_S1x16_S16 l).trans (congrArg v (by funext a; fin_cases a <;> rfl))

variable [Facts]
variable {arg5 : Memref sig .scVector .vmem S16x384 .f32} {arg6 : Memref sig .scVector .vmem S3x128 .f32}

/-! ## The zeroing -/

/-- The blocks of sixteen before the `j`th, row by row, hold zeros. -/
def Zeroed (j : Nat) (X : S16x384.Idx → F .f32) : Prop := ∀ y, 24 * (y 0).val + (y 1).val / 16 < j → X y = zero

theorem zeroed_all {X : S16x384.Idx → F .f32} (h : Zeroed 384 X) : X = fun _ => zero := by
  funext y
  have h0 : (y 0).val < 16 := (y 0).isLt
  have h1 : (y 1).val < 384 := (y 1).isLt
  exact h y (by omega)

theorem wp_zeros (k : TileProg F c s) : ∀ (n j : Nat) (X : S16x384.Idx → F .f32), n + j = 384 → Zeroed j X →
    (owns (tile d c s) arg5 fullShare X : sProp 𝕄)
      ⊢ iprop((owns (tile d c s) arg5 fullShare (fun _ => (zero : F .f32)) -∗ wp frame (wpE defs 𝒱 (tile d c s) bd) E k Q)
        -∗ wp frame (wpE defs 𝒱 (tile d c s) bd) E (zeros arg5 n j k) Q)
  | 0, j, X, hj, hX => by
    rw [zeroed_all (show Zeroed 384 X by rwa [← hj, Nat.zero_add])]
    unfold zeros
    iintro H Hk
    iapply Hk $$ H
  | n + 1, j, X, hj, hX => by
    unfold zeros
    iintro H Hk
    iapply (Owns.load (defs := defs) (𝒱 := 𝒱) (c := tile d c s) (bd := bd) (E := E) (Q := Q) (m := arg5) (r := histRow (j / 24) j)) $$ H
    iintro H
    have hY : ∀ y : S16x384.Idx, (∀ x, (histRow (j / 24) j).emb x ≠ y) → 24 * (y 0).val + (y 1).val / 16 ≠ j := by
      intro y hy e
      have h1 : (y 1).val < 384 := (y 1).isLt
      have h0 : (y 0).val < 16 := (y 0).isLt
      refine hy (ValueIdx.ix2 0 ⟨(y 1).val % 16, Nat.mod_lt _ (by omega)⟩) ?_
      rw [histRow_emb]
      funext a
      apply Fin.ext
      fin_cases a
      · show (j / 24) % 16 = (y 0).val
        omega
      · show (16 * (j % 24) + (y 1).val % 16) % 384 = (y 1).val
        omega
    iapply (Owns.store (defs := defs) (𝒱 := 𝒱) (c := tile d c s) (bd := bd) (E := E) (Q := Q) (m := arg5) (r := histRow (j / 24) j)
      (Y := fun y => if 24 * (y 0).val + (y 1).val / 16 = j then zero else X y) ?_ ?_) $$ H
    · intro x
      have hx1 : (x 1).val < 16 := (x 1).isLt
      rw [histRow_emb, cast_row]
      refine if_pos ?_
      show 24 * ((j / 24) % 16) + (16 * (j % 24) + (x 1).val) % 384 / 16 = j
      omega
    · intro y hy
      exact if_neg (hY y hy)
    iintro H
    iapply (wp_zeros k n (j + 1) _ (by omega) (fun y hy => by
      by_cases e : 24 * (y 0).val + (y 1).val / 16 = j
      · exact if_pos e
      · exact (if_neg e).trans (hX y (by omega)))) $$ H
    iexact Hk

/-! ## The counting -/

section Count
variable {m : Nat} {arg4 : Memref sig .scVector .vmem ⟨2, ![m, 128]⟩ .i32} {C : Nat → Nat → BitVec 32}

/-- The tile's rows of indices, as `C` gives them. -/
abbrev rows (m : Nat) (C : Nat → Nat → BitVec 32) : (⟨2, ![m, 128]⟩ : Shape).Idx → Elt F .i32 := fun x => C (x 0).val (x 1).val

omit [Facts] in
/-- Indices below 384 pass a slot's check. -/
theorem slot_check (hC : ∀ r k, (C r k).toNat < 384) (p : Nat) (V : IVec S16 32)
    (hV : ∀ l : S16.Idx, V l = C (p / 8) (16 * (p % 8) + (l 0).val)) : k1_chk1 lanes V := by
  intro a x
  fin_cases a
  · show (lanes x).toNat < 16
    unfold lanes
    rw [iota_single_apply]
    have : (x 0).val < 16 := (x 0).isLt
    simp; omega
  · show (V x).toNat < 384
    rw [hV]; exact hC _ _

omit [Facts] in
/-- Counting a slot's sixteen indices is the next step of the tally. -/
theorem slot_bump (p : Nat) (V : IVec S16 32) (hV : ∀ l : S16.Idx, V l = C (p / 8) (16 * (p % 8) + (l 0).val)) :
    bump (tally (F := F) C p) (fun l => V (ValueIdx.ix1 (Fin.ofNat 16 l))) = tally C (p + 1) := by
  show _ = bump (tally C p) _
  funext y
  have h0 : (y 0).val < 16 := (y 0).isLt
  have : (((ValueIdx.ix1 (Fin.ofNat 16 (y 0).val) : S16.Idx) 0).val) = (y 0).val := by
    show (y 0).val % 16 = _
    omega
  simp only [bump, hV, this]

/-- A slot's scatter. -/
theorem wp_scatter (p : Nat) (V : Vec F S16 .i32) (hV : ∀ l : S16.Idx, V l = C (p / 8) (16 * (p % 8) + (l 0).val))
    (h : ∀ a x, ((![lanes, V] : Fin 2 → IVec S16 32) a x).toNat < S16x384.size a) (k : TileProg F c s) :
    (owns (tile d c s) arg5 fullShare (tally (F := F) C p) : sProp 𝕄)
      ⊢ iprop((owns (tile d c s) arg5 fullShare (tally (F := F) C (p + 1)) -∗ wp frame (wpE defs 𝒱 (tile d c s) bd) E k Q)
        -∗ wp frame (wpE defs 𝒱 (tile d c s) bd) E ((SparseCore.vectorStoreIdx arg5 ![lanes, V]
          (broadcast S16 (Scalar.ofBits (F := F) .f32 0x3F800000#32)) (fun _ => 1#1) true h
          (View.stores_vmem_bits_univ h_S16x384 rfl)).bind fun _ => k) Q) := by
  rw [← slot_bump (F := F) p V hV, ← storeIdx_lanes _ V h]
  exact Owns.storeIdx (defs := defs) (𝒱 := 𝒱) (c := tile d c s) (bd := bd) (E := E) (Q := Q) (m := arg5)
    (idxs := ![lanes, V]) (v := broadcast S16 (one : F .f32)) (mask := fun _ => 1#1) (add := true) (h := h)
    (k := fun _ => k)

/-- One slot: group `p` of sixteen indices is counted. -/
theorem wp_slot (hC : ∀ r k, (C r k).toNat < 384) (p : Nat) {off : Fin 2 → Nat} (hoff : off = ![p / 8, 16 * (p % 8)])
    (inb : ∀ a, off a + S1x16.size a ≤ (⟨2, ![m, 128]⟩ : Shape).size a) (k : TileProg F c s) :
    iprop(owns (tile d c s) arg4 fullShare (rows (F := F) m C) ∗ owns (tile d c s) arg5 fullShare (tally (F := F) C p) : sProp 𝕄)
      ⊢ iprop((iprop(owns (tile d c s) arg4 fullShare (rows (F := F) m C) ∗ owns (tile d c s) arg5 fullShare (tally (F := F) C (p + 1)))
          -∗ wp frame (wpE defs 𝒱 (tile d c s) bd) E k Q)
        -∗ wp frame (wpE defs 𝒱 (tile d c s) bd) E (slot arg4 arg5 off inb k) Q) := by
  subst hoff
  unfold slot
  iintro ⟨H4, H5⟩ Hk
  iapply (Owns.load (defs := defs) (𝒱 := 𝒱) (c := tile d c s) (bd := bd) (E := E) (Q := Q) (m := arg4)
    (r := Rect.unit (s := ⟨2, ![m, 128]⟩) ![p / 8, 16 * (p % 8)] S1x16.size inb)) $$ H4
  iintro H4
  have hv : ∀ l : S16.Idx, shapeCast (α := Elt F .i32) S16 (fun x : S1x16.Idx => rows (F := F) m C
      ((Rect.unit (s := ⟨2, ![m, 128]⟩) ![p / 8, 16 * (p % 8)] S1x16.size inb).emb x)) shapeCasts_S1x16_S16 l
      = C (p / 8) (16 * (p % 8) + (l 0).val) := by
    intro l
    rw [cast_vec]
    show C _ _ = C _ _
    congr 1
    rw [Rect.emb_apply]; simp [ValueIdx.ix2]; rfl
  iapply (wp_assume (defs := defs) 𝒱 (tile d c s) bd E (Q := Q) (slot_check hC p _ hv))
  iapply (wp_scatter (defs := defs) (𝒱 := 𝒱) (bd := bd) (E := E) (Q := Q) p _ hv _ k) $$ H5
  iintro H5
  iapply Hk
  isplitl [H4]; · iexact H4
  iexact H5

/-- The slots of a trip from the `j`th on. -/
theorem wp_slots (hC : ∀ r k, (C r k).toNat < 384) (t : Nat) {off : Fin 8 → Fin 2 → Nat} (hoff : ∀ j, off j = ![t, 16 * j.val])
    (inb : ∀ j a, off j a + S1x16.size a ≤ (⟨2, ![m, 128]⟩ : Shape).size a) (k : TileProg F c s) : ∀ n j : Nat, n + j = 8 →
    iprop(owns (tile d c s) arg4 fullShare (rows (F := F) m C) ∗ owns (tile d c s) arg5 fullShare (tally (F := F) C (8 * t + j)) : sProp 𝕄)
      ⊢ iprop((iprop(owns (tile d c s) arg4 fullShare (rows (F := F) m C) ∗ owns (tile d c s) arg5 fullShare (tally (F := F) C (8 * (t + 1))))
          -∗ wp frame (wpE defs 𝒱 (tile d c s) bd) E k Q)
        -∗ wp frame (wpE defs 𝒱 (tile d c s) bd) E (slots arg4 arg5 off inb n j k) Q)
  | 0, j, hj => by
    obtain rfl : j = 8 := by omega
    rw [show 8 * t + 8 = 8 * (t + 1) by omega]
    unfold slots
    iintro H Hk
    iapply Hk $$ H
  | n + 1, j, hj => by
    unfold slots
    iintro H Hk
    iapply (wp_slot (defs := defs) (𝒱 := 𝒱) (bd := bd) (E := E) (Q := Q) hC (8 * t + j) (by
      rw [hoff, show (8 * t + j) / 8 = t by omega, show (8 * t + j) % 8 = (Fin.ofNat 8 j).val by
        show _ = j % 8
        omega]) _ _) $$ H
    iintro H
    iapply (wp_slots hC t hoff inb k n (j + 1) (by omega)) $$ H
    iexact Hk

/-- The loop over the tile's rows: all their indices are counted. -/
theorem wp_loop (hC : ∀ r k, (C r k).toNat < 384) (ℓ : Scf.Loop 32) (hℓ : ℓ.OK) (hm : ℓ.trips = m)
    {off : Fin ℓ.trips → Fin 8 → Fin 2 → Nat} (hoff : ∀ t j, off t j = ![t.val, 16 * j.val])
    (inb : ∀ t j a, off t j a + S1x16.size a ≤ (⟨2, ![m, 128]⟩ : Shape).size a) (k : PUnit → TileProg F c s) :
    iprop(owns (tile d c s) arg4 fullShare (rows (F := F) m C) ∗ owns (tile d c s) arg5 fullShare (fun _ => (zero : F .f32)) : sProp 𝕄)
      ⊢ iprop((iprop(owns (tile d c s) arg4 fullShare (rows (F := F) m C) ∗ owns (tile d c s) arg5 fullShare (tally (F := F) C (8 * m)))
          -∗ wp frame (wpE defs 𝒱 (tile d c s) bd) E (k ⟨⟩) Q)
        -∗ wp frame (wpE defs 𝒱 (tile d c s) bd) E
          ((Scf.Loop.for ℓ hℓ ⟨⟩ fun t _ => slots arg4 arg5 (off t) (inb t) 8 0 (.ret ⟨⟩)).bind k) Q) := by
  rw [show (fun _ => (zero : F .f32) : S16x384.Idx → F .f32) = tally (F := F) C (8 * 0) from rfl]
  iintro H Hk
  iapply (Scf.wp_for_bind frame (wpE defs 𝒱 (tile d c s) bd) E ℓ.lb ℓ.ub ℓ.st hℓ ⟨⟩
    (fun t _ => slots arg4 arg5 (off t) (inb t) 8 0 (.ret ⟨⟩))
    (fun t _ => iprop(owns (tile d c s) arg4 fullShare (rows (F := F) m C) ∗ owns (tile d c s) arg5 fullShare (tally (F := F) C (8 * t))))
    (fun t _ => by
      iintro H
      iapply (wp_slots (defs := defs) (𝒱 := 𝒱) (bd := bd) (E := E) hC t.val (hoff t) (inb t) (.ret ⟨⟩) 8 0 rfl) $$ H
      iintro H
      rw [wp_ret]
      imodintro
      iexact H)) $$ H
  iintro %acc H
  iapply Hk
  rw [show Scf.trips ℓ.lb ℓ.ub ℓ.st = m from hm]
  iexact H

end Count

/-! ## The summing -/

/-- Rows `r`, … of block `b` added to what rows before them add up to: the sum of all sixteen. -/
theorem wp_sumRows (X : S16x384.Idx → F .f32) (b : Nat) (k : FVec F S16 .f32 → TileProg F c s) : ∀ (n r : Nat) (acc : FVec F S16 .f32),
    n + r = 15 → (acc = fun l => colSum X (16 * (b % 24) + (l 0).val) r) →
    (owns (tile d c s) arg5 fullShare X : sProp 𝕄)
      ⊢ iprop((owns (tile d c s) arg5 fullShare X
            -∗ wp frame (wpE defs 𝒱 (tile d c s) bd) E (k fun l => colSum X (16 * (b % 24) + (l 0).val) 15) Q)
        -∗ wp frame (wpE defs 𝒱 (tile d c s) bd) E (sumRows arg5 b n (r + 1) acc k) Q)
  | 0, r, acc, hr, hacc => by
    obtain rfl : r = 15 := by omega
    subst hacc
    unfold sumRows
    iintro H Hk
    iapply Hk $$ H
  | n + 1, r, acc, hr, hacc => by
    unfold sumRows
    iintro H Hk
    iapply (Owns.load (defs := defs) (𝒱 := 𝒱) (c := tile d c s) (bd := bd) (E := E) (Q := Q) (m := arg5) (r := histRow (r + 1) b)) $$ H
    iintro H
    iapply (wp_sumRows X b k n (r + 1) _ (by omega) (by
      funext l
      subst hacc
      show FloatOps.addf _ (shapeCast S16 _ shapeCasts_S1x16_S16 l) = FloatOps.addf _ _
      rw [cast_vec, histRow_emb])) $$ H
    iexact Hk

theorem outRow_emb (b : Nat) (x : S1x16.Idx) (a : Fin 2) :
    ((outRow b).emb x a).val = (![b / 8 % 3, 16 * (b % 8) + (x 1).val] : Fin 2 → Nat) a := by
  have hx0 : (x 0).val < 1 := (x 0).isLt
  rw [Rect.emb_apply]
  fin_cases a <;> simp <;> omega

/-- The blocks before the `b`th of the tile's sum hold their sums. -/
def Summed (X : S16x384.Idx → F .f32) (b : Nat) (Z : S3x128.Idx → F .f32) : Prop :=
  ∀ y, 8 * (y 0).val + (y 1).val / 16 < b → Z y = colSum X (128 * (y 0).val + (y 1).val) 15

theorem wp_blocks (X : S16x384.Idx → F .f32) (k : TileProg F c s) : ∀ (n b : Nat) (Z : S3x128.Idx → F .f32), n + b = 24 → Summed X b Z →
    iprop(owns (tile d c s) arg5 fullShare X ∗ owns (tile d c s) arg6 fullShare Z : sProp 𝕄)
      ⊢ iprop((iprop(owns (tile d c s) arg5 fullShare X
              ∗ owns (tile d c s) arg6 fullShare fun y => colSum X (128 * (y 0).val + (y 1).val) 15)
            -∗ wp frame (wpE defs 𝒱 (tile d c s) bd) E k Q)
        -∗ wp frame (wpE defs 𝒱 (tile d c s) bd) E (blocks arg5 arg6 n b k) Q)
  | 0, b, Z, hb, hZ => by
    have e : Z = fun y => colSum X (128 * (y 0).val + (y 1).val) 15 := by
      funext y
      have h0 : (y 0).val < 3 := (y 0).isLt
      have h1 : (y 1).val < 128 := (y 1).isLt
      exact hZ y (by omega)
    rw [e]
    unfold blocks
    iintro H Hk
    iapply Hk $$ H
  | n + 1, b, Z, hb, hZ => by
    unfold blocks
    iintro ⟨H5, H6⟩ Hk
    iapply (Owns.load (defs := defs) (𝒱 := 𝒱) (c := tile d c s) (bd := bd) (E := E) (Q := Q) (m := arg5) (r := histRow 0 b)) $$ H5
    iintro H5
    iapply (wp_sumRows (defs := defs) (𝒱 := 𝒱) (bd := bd) (E := E) (Q := Q) X b _ 15 0 _ rfl (by
      funext l
      rw [cast_vec, histRow_emb]; rfl)) $$ H5
    iintro H5
    iapply (Owns.load (defs := defs) (𝒱 := 𝒱) (c := tile d c s) (bd := bd) (E := E) (Q := Q) (m := arg6) (r := outRow b)) $$ H6
    iintro H6
    iapply (Owns.store (defs := defs) (𝒱 := 𝒱) (c := tile d c s) (bd := bd) (E := E) (Q := Q) (m := arg6) (r := outRow b)
      (Y := fun y => if 8 * (y 0).val + (y 1).val / 16 = b then colSum X (128 * (y 0).val + (y 1).val) 15 else Z y) ?_ ?_) $$ H6
    · intro x
      have hx1 : (x 1).val < 16 := (x 1).isLt
      have e0 : ((outRow b).emb x 0).val = b / 8 % 3 := outRow_emb b x 0
      have e1 : ((outRow b).emb x 1).val = 16 * (b % 8) + (x 1).val := outRow_emb b x 1
      rw [cast_row, e0, e1, if_pos (by omega)]
      congr 1
      show _ = 16 * (b % 24) + (x 1).val
      omega
    · intro y hy
      refine if_neg fun e => ?_
      have h1 : (y 1).val < 128 := (y 1).isLt
      have h0 : (y 0).val < 3 := (y 0).isLt
      refine hy (ValueIdx.ix2 0 ⟨(y 1).val % 16, Nat.mod_lt _ (by omega)⟩) ?_
      funext a
      apply Fin.ext
      rw [outRow_emb]
      fin_cases a
      · show b / 8 % 3 = (y 0).val
        omega
      · show 16 * (b % 8) + (y 1).val % 16 = (y 1).val
        omega
    iintro H6
    have hZ' : Summed X (b + 1) fun y => if 8 * (y 0).val + (y 1).val / 16 = b then colSum X (128 * (y 0).val + (y 1).val) 15 else Z y := by
      intro y hy
      by_cases e : 8 * (y 0).val + (y 1).val / 16 = b
      · exact if_pos e
      · exact (if_neg e).trans (hZ y (by omega))
    iapply (wp_blocks X k n (b + 1) _ (by omega) hZ') $$ [H5 H6]
    · isplitl [H5]; · iexact H5
      iexact H6
    iexact Hk

/-! ## The whole body -/

theorem wp_prog [CountersIn U] [Infinite Name] {m : Nat} (hm0 : 0 < m) {C : Nat → Nat → BitVec 32} (hC : ∀ r k, (C r k).toNat < 384)
    {src : Memref sig .scVector .hbm ⟨2, ![m, 128]⟩ .i32}
    {arg4 : Memref sig .scVector .vmem ⟨2, ![m, 128]⟩ .i32} {dst : Memref sig .scVector .hbm S3x128 .f32}
    (hsrc : src.view.WordExact) (harg4 : arg4.view.WordExact) (harg6 : arg6.view.WordExact) (hdst : dst.view.WordExact)
    (ℓ : Scf.Loop 32) (hℓ : ℓ.OK) (hm : ℓ.trips = m) (off : Fin ℓ.trips → Fin 8 → Fin 2 → Nat)
    (hoff : ∀ t j, off t j = ![t.val, 16 * j.val])
    (inb : ∀ t j a, off t j a + S1x16.size a ≤ (⟨2, ![m, 128]⟩ : Shape).size a) (r0 r1 : DmaSems sig S_)
    {q : PosShare TreeShare} {A4 : (⟨2, ![m, 128]⟩ : Shape).Idx → Elt F .i32} {A5 : S16x384.Idx → F .f32} {A6 Adst : S3x128.Idx → F .f32}
    (ι : Ix) {O : CellTallies nD τ sig Ix} {W : Waits sig Ix} :
    iprop(owns (tile d c s) src q (rows (F := F) m C) ∗ owns (tile d c s) dst fullShare Adst ∗ owns (tile d c s) arg4 fullShare A4
        ∗ owns (tile d c s) arg5 fullShare A5 ∗ owns (tile d c s) arg6 fullShare A6
        ∗ semVal (tile d c s, .dma r0.sem) 0 ∗ semVal (tile d c s, .dma r1.sem) 0
        ∗ owes (tile d c s) O W ∗ Transfers.MayWaits (tile d c s) ι O : sProp 𝕄)
      ⊢ wp frame (wpE defs 𝒱 (tile d c s) bd) Set.univ (prog (arg5 := arg5) hsrc harg4 harg6 hdst ℓ hℓ off inb r0 r1)
        fun _ => iprop(owns (tile d c s) src q (rows (F := F) m C) ∗ owns (tile d c s) dst fullShare (tileHist (F := F) m C)
          ∗ (∃ A, owns (tile d c s) arg4 fullShare A) ∗ (∃ A, owns (tile d c s) arg5 fullShare A)
          ∗ (∃ A, owns (tile d c s) arg6 fullShare A)
          ∗ semVal (tile d c s, .dma r0.sem) 0 ∗ semVal (tile d c s, .dma r1.sem) 0
          ∗ owes (tile d c s) O (insert (SemLoc.dma r1.sem, ι) (insert (SemLoc.dma r0.sem, ι) W))) := by
  unfold prog
  iintro ⟨Hs, Hd, H4, H5, H6, Hv0, Hv1, HO, #HM⟩
  iapply (Owns.copyWait (defs := defs) (𝒱 := 𝒱) (c := tile d c s) (bd := bd) (src := src) (dst := arg4) (sem := r0.sem) ι
    (View.dmaCredit_pos _ (by simp [Shape.numel, Fin.prod_univ_two]; omega))) $$ [Hs H4 Hv0 HO]
  · isplitl [Hs]; · iexact Hs
    isplitl [H4]; · iexact H4
    isplitl [Hv0]; · iexact Hv0
    isplitl [HO]; · iexact HO
    iapply (Transfers.MayWaits.elim (SemLoc.dma r0.sem)) $$ HM
  iintro ⟨Hs, H4, Hv0, HO⟩
  iapply (wp_zeros (defs := defs) (𝒱 := 𝒱) (bd := bd) _ 384 0 A5 rfl (fun y hy => absurd hy (Nat.not_lt_zero _))) $$ H5
  iintro H5
  iapply (wp_loop (defs := defs) (𝒱 := 𝒱) (bd := bd) hC ℓ hℓ hm hoff inb) $$ [H4 H5]
  · isplitl [H4]; · iexact H4
    iexact H5
  iintro ⟨H4, H5⟩
  iapply (wp_blocks (defs := defs) (𝒱 := 𝒱) (bd := bd) _ _ 24 0 A6 rfl (fun y hy => absurd hy (Nat.not_lt_zero _))) $$ [H5 H6]
  · isplitl [H5]; · iexact H5
    iexact H6
  iintro ⟨H5, H6⟩
  iapply (Owns.copyWait (defs := defs) (𝒱 := 𝒱) (c := tile d c s) (bd := bd) (src := arg6) (dst := dst) (sem := r1.sem) ι
    (View.dmaCredit_pos _ (by decide))) $$ [H6 Hd Hv1 HO]
  · isplitl [H6]; · iexact H6
    isplitl [Hd]; · iexact Hd
    isplitl [Hv1]; · iexact Hv1
    isplitl [HO]; · iexact HO
    iapply (Transfers.MayWaits.elim (SemLoc.dma r1.sem)) $$ HM
  iintro ⟨H6, Hd, Hv1, HO⟩
  rw [wp_ret]
  imodintro
  isplitl [Hs]; · iexact Hs
  isplitl [Hd]; · iexact Hd
  isplitl [H4]; · iexists _; iexact H4
  isplitl [H5]; · iexists _; iexact H5
  isplitl [H6]; · iexists _; iexact H6
  isplitl [Hv0]; · iexact Hv0
  isplitl [Hv1]; · iexact Hv1
  iexact HO

end Cert.KernelIdeal.Hist
-- ==== Proof.Tiles.lean ====
/- A subcore's share of a histogram call: the rows of codes it reads, the rows of the result it writes, and its run. -/
module

public import proofs.«01_k».proof.Proof.Setup
public import proofs.«01_k».proof.Proof.Flat
public import Idealize.ShloMosaic.Lib.Pipeline.ValueKit
public import proofs.«01_k».proof.Proof.HistText
public import proofs.«01_k».proof.Proof.HistRun

@[expose] public section

noncomputable section

namespace Cert.KernelIdeal.Launch

open Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Values -/

/-- A histogram call's result: rows `3w`, `3w + 1`, `3w + 2` hold, 128 columns to a row, the histogram of rows
    `m * w … m * w + m - 1` of the codes `C`. -/
def hist (m : Nat) (C : Nat → Nat → BitVec 32) : S96x128.Idx → F .f32 := fun y =>
  Hist.colSum (Hist.tally (fun r k => C (m * ((y 0).val / 3) + r) k) (8 * m)) (128 * ((y 0).val % 3) + (y 1).val) 15

/-- The codes the first call reads, by row and column, -/
def codes1 (A : S8x19x512x512.Idx → F .f32) (B : S8x512x512.Idx → BitVec 32) (r k : Nat) : BitVec 32 :=
  Label.codeAt A B (128 * r + k)
/-- and those the second reads. -/
def codes2 (A : S8x19x512x512.Idx → F .f32) (B : S8x512x512.Idx → BitVec 32) (r k : Nat) : BitVec 32 :=
  Label.codeAt A B (1572864 + (128 * r + k))

/-- A tile's rows of codes, as the first call's tile `w` reads them, -/
theorem rows1 (A : S8x19x512x512.Idx → F .f32) (B : S8x512x512.Idx → BitVec 32) (w : Nat) (j : S384x128.Idx) (y : S12288x128.Idx)
    (h0 : (y 0).val = 384 * w + (j 0).val) (h1 : (y 1).val = (j 1).val) :
    Hist.rows (F := F) 384 (fun r k => codes1 A B (384 * w + r) k) j = Label.comb1 A B y := by
  show Label.codeAt A B (128 * (384 * w + (j 0).val) + (j 1).val) = Label.codeAt A B (128 * (y 0).val + (y 1).val)
  rw [h0, h1]

/-- and as the second's does. -/
theorem rows2 (A : S8x19x512x512.Idx → F .f32) (B : S8x512x512.Idx → BitVec 32) (w : Nat) (j : S128x128.Idx) (y : S4096x128.Idx)
    (h0 : (y 0).val = 128 * w + (j 0).val) (h1 : (y 1).val = (j 1).val) :
    Hist.rows (F := F) 128 (fun r k => codes2 A B (128 * w + r) k) j = Label.comb2 A B y := by
  show Label.codeAt A B (1572864 + (128 * (128 * w + (j 0).val) + (j 1).val)) = Label.codeAt A B (1572864 + (128 * (y 0).val + (y 1).val))
  rw [h0, h1]

/-- A tile's histogram is its rows of the call's result. -/
theorem hist_rows (m : Nat) (C : Nat → Nat → BitVec 32) (w : Nat) (j : S3x128.Idx) (y : S96x128.Idx)
    (h0 : (y 0).val = 3 * w + (j 0).val) (h1 : (y 1).val = (j 1).val) :
    Hist.tileHist (F := F) m (fun r k => C (m * w + r) k) j = hist m C y := by
  have hj : (j 0).val < 3 := (j 0).isLt
  show _ = Hist.colSum (Hist.tally (fun r k => C (m * ((y 0).val / 3) + r) k) (8 * m)) (128 * ((y 0).val % 3) + (y 1).val) 15
  rw [h0, h1, show (3 * w + (j 0).val) / 3 = w by omega, show (3 * w + (j 0).val) % 3 = (j 0).val by omega]
  rfl

/-- Where an element of a rectangle of rows lies. -/
theorem emb_rows {s : Shape} {off size : Fin s.rank → Nat} {inb} {o : Fin s.rank → Nat} (e : off = o)
    (j : (Rect.unit (s := s) off size inb).shape.Idx) (a : Fin s.rank) :
    ((Rect.unit (s := s) off size inb).emb j a : Nat) = o a + j a := by
  rw [ValueKit.rect_emb_unit_val]
  exact congrArg (· + (j a).val) (congrFun e a)

/-! ## Shares -/

/-- An array's rows dealt in 32 equal runs. -/
theorem div1 : 32 ∣ S12288x128.size 0 := by decide
theorem div2 : 32 ∣ S4096x128.size 0 := by decide
theorem div3 : 32 ∣ S96x128.size 0 := by decide

abbrev share1 (w : Fin 32) : Finset S12288x128.Idx := (Rect.part (s := S12288x128) (a₀ := 0) div1 w).set
abbrev share2 (w : Fin 32) : Finset S4096x128.Idx := (Rect.part (s := S4096x128) (a₀ := 0) div2 w).set
abbrev share3 (w : Fin 32) : Finset S96x128.Idx := (Rect.part (s := S96x128) (a₀ := 0) div3 w).set

/-- A buffer whole is its shares. -/
theorem pts_shares {ℓ : Loc nD τ sig} (K : Fin 32 → Finset (Idx ℓ)) (hd : ∀ {i j : Fin 32}, i ≠ j → Disjoint (K i) (K j))
    (hc : Finset.univ.biUnion K = Finset.univ) (f : Buf (Elt F) ℓ) :
    (ℓ ↦{fullShare} f : sProp (MM F)) = bigSep Finset.univ fun w : Fin 32 => ℓ ↦[K w]{fullShare} f := by
  rw [← pointsTo_biUnion Finset.univ (ℓ := ℓ) K (fun _ _ _ _ h => hd h), hc]

/-- A share of a whole buffer, as a slice a tile owns: at the contents `g` the slice reads there. -/
theorem owns_share (d : Dev nD) (c : Fin τ.nSC) (i : Fin τ.nSub) (b : Ref sig .scVector) (r r' : Rect b.ty.shape)
    (hr : ∀ a, r.stride a = 1) (e : r.set = r'.set) {X : r.shape.Idx → Elt F b.ty.elt} {g : b.ty.Contents (Elt F)}
    (h : ∀ j, X j = g (r.emb j)) :
    (owns (V d c i) ((Memref.whole b).slice r hr) fullShare X : sProp (MM F))
      = ((V d c i : Thread nD τ).loc b) ↦[r'.set]{fullShare} g := by
  rw [show X = fun j => (Memref.whole b).view.read (Elt F) g (r.emb j) from funext h, owns_slice_read, ← e, ← View.set_slice_whole]

/-- The rectangle of rows a tile reads in the first call is its share, -/
theorem rect1 (L : grid1.Coords) (w : Fin 32) (hw : w.val = 2 * (L 1).val + (L 0).val) :
    Rect.unit (s := S12288x128) (k1_off1 L) S384x128.size (k1_off1_inb L) = Rect.part (s := S12288x128) (a₀ := 0) div1 w := by
  unfold Rect.part Rect.block
  congr 1 <;> funext a
  · rw [k1_off1_eq]
    match a with
    | 0 => simp [Shape.partIx, Shape.partSize]; omega
    | 1 => simp [Shape.partIx, Shape.partSize]
  · match a with
    | 0 => simp [Shape.partSize]
    | 1 => simp [Shape.partSize]

/-- and so is the one of rows it writes; -/
theorem rect1' (L : grid1.Coords) (w : Fin 32) (hw : w.val = 2 * (L 1).val + (L 0).val) :
    Rect.unit (s := S96x128) (k1_off10 L) S3x128.size (k1_off10_inb L) = Rect.part (s := S96x128) (a₀ := 0) div3 w := by
  unfold Rect.part Rect.block
  congr 1 <;> funext a
  · rw [k1_off10_eq]
    match a with
    | 0 => simp [Shape.partIx, Shape.partSize]; omega
    | 1 => simp [Shape.partIx, Shape.partSize]
  · match a with
    | 0 => simp [Shape.partSize]
    | 1 => simp [Shape.partSize]

/-- in the second call too. -/
theorem rect2 (L : grid3.Coords) (w : Fin 32) (hw : w.val = 2 * (L 1).val + (L 0).val) :
    Rect.unit (s := S4096x128) (k3_off1 L) S128x128.size (k3_off1_inb L) = Rect.part (s := S4096x128) (a₀ := 0) div2 w := by
  unfold Rect.part Rect.block
  congr 1 <;> funext a
  · rw [k3_off1_eq]
    match a with
    | 0 => simp [Shape.partIx, Shape.partSize]; omega
    | 1 => simp [Shape.partIx, Shape.partSize]
  · match a with
    | 0 => simp [Shape.partSize]
    | 1 => simp [Shape.partSize]

theorem rect2' (L : grid3.Coords) (w : Fin 32) (hw : w.val = 2 * (L 1).val + (L 0).val) :
    Rect.unit (s := S96x128) (k3_off10 L) S3x128.size (k3_off10_inb L) = Rect.part (s := S96x128) (a₀ := 0) div3 w := by
  unfold Rect.part Rect.block
  congr 1 <;> funext a
  · rw [k3_off10_eq]
    match a with
    | 0 => simp [Shape.partIx, Shape.partSize]; omega
    | 1 => simp [Shape.partIx, Shape.partSize]
  · match a with
    | 0 => simp [Shape.partSize]
    | 1 => simp [Shape.partSize]

/-! ## A tile's run -/

/-- A tile's run with its share of the codes and of the result: the result's rows end as the histogram of its rows of
    codes, and its scratch and semaphores come back as they were lent. -/
theorem tile_run (d : Dev nD) (c : Fin τ.nSC) (i : Fin τ.nSub) {m : Nat} (hm0 : 0 < m) {C : Nat → Nat → BitVec 32}
    (hC : ∀ r k, (C r k).toNat < 384)
    {src : Memref sig .scVector .hbm ⟨2, ![m, 128]⟩ .i32} {arg4 : Memref sig .scVector .vmem ⟨2, ![m, 128]⟩ .i32}
    {arg5 : Memref sig .scVector .vmem S16x384 .f32}
    {arg6 : Memref sig .scVector .vmem S3x128 .f32} {dst : Memref sig .scVector .hbm S3x128 .f32}
    (hsrc : src.view.WordExact) (harg4 : arg4.view.WordExact) (harg6 : arg6.view.WordExact) (hdst : dst.view.WordExact)
    (ℓ : Scf.Loop 32) (hℓ : ℓ.OK) (hm : ℓ.trips = m) (off : Fin ℓ.trips → Fin 8 → Fin 2 → Nat)
    (hoff : ∀ t j, off t j = ![t.val, 16 * j.val])
    (inb : ∀ t j a, off t j a + S1x16.size a ≤ (⟨2, ![m, 128]⟩ : Shape).size a) (r0 r1 : DmaSems sig S_)
    {Adst : S3x128.Idx → F .f32} {R S Ps P0 P1 : sProp (MM F)}
    (hs : owns (V d c i) src fullShare (Hist.rows (F := F) m C) = Ps) (h0 : owns (V d c i) dst fullShare Adst = P0)
    (h1 : owns (V d c i) dst fullShare (Hist.tileHist (F := F) m C) = P1)
    (hR : (ownBufs (V d c i) : sProp (MM F)) = iprop((∃ A, owns (V d c i) arg4 fullShare A) ∗ (∃ A, owns (V d c i) arg5 fullShare A)
      ∗ (∃ A, owns (V d c i) arg6 fullShare A) ∗ R))
    (hS : (ownSems0 (V d c i) : sProp (MM F)) = iprop(semVal (V d c i, .dma r0.sem) 0 ∗ semVal (V d c i, .dma r1.sem) 0 ∗ S))
    {body : Hist.TileProg F c i}
    (hb : body = Hist.prog (arg5 := arg5) hsrc harg4 harg6 hdst ℓ hℓ off inb r0 r1)
    {O : CellTallies nD τ sig (HIx 2)} {W : Waits sig (HIx 2)} (hO : ∀ g, O g none = 0) :
    iprop(levAts (K (F := F)).L (K (F := F)).lev ∗ (Ps ∗ P0)
        ∗ scopedBufs (V d c i) ∗ scopedSems0 (V d c i) ∗ owes (V d c i) O W : sProp (MM F))
      ⊢ wp frame (wpE (defs₀ (F := F)) 𝒱₀ (V d c i) none) Set.univ
          body
          fun _ => iprop((Ps ∗ P1)
            ∗ scopedBufs (V d c i) ∗ scopedSems0 (V d c i)
            ∗ ∃ W', ⌜∀ p ∈ W', p ∈ W ∨ p.2 = none⌝ ∗ owes (V d c i) O W') := by
  subst hs h0 h1 hb
  rw [(K (F := F)).scopedBufs_V facts d c i, SparseCore.Cfg.scopedSems0_V (Val := Elt F) d c i, hR, hS]
  iintro ⟨#Hlv, ⟨Hs, Hd⟩, ⟨⟨%A4, H4⟩, ⟨%A5, H5⟩, ⟨%A6, H6⟩, HR⟩, ⟨Hv0, Hv1, HS⟩, HO⟩
  iapply (wp_wand_r frame (wpE (defs₀ (F := F)) 𝒱₀ (V d c i) none) Set.univ)
  isplitl [Hs Hd H4 H5 H6 Hv0 Hv1 HO]
  · iapply (Hist.wp_prog (defs := defs₀ (F := F)) (𝒱 := 𝒱₀) (bd := none) (d := d) (c := c) (s := i) (Ix := HIx 2) (Name := ℕ) (U := UU)
      (Lvl := ℕ) hm0 hC hsrc harg4 harg6 hdst ℓ hℓ hm off hoff inb r0 r1 none)
    isplitl [Hs]; · iexact Hs
    isplitl [Hd]; · iexact Hd
    isplitl [H4]; · iexact H4
    isplitl [H5]; · iexact H5
    isplitl [H6]; · iexact H6
    isplitl [Hv0]; · iexact Hv0
    isplitl [Hv1]; · iexact Hv1
    isplitl [HO]; · iexact HO
    iapply ((K (F := F)).mayWaits_none hO) $$ Hlv
  iintro %_ ⟨Hs, Hd, H4, H5, H6, Hv0, Hv1, HO⟩
  isplitl [Hs Hd]
  · isplitl [Hs] <;> iassumption
  isplitl [H4 H5 H6 HR]
  · isplitl [H4]; · iexact H4
    isplitl [H5]; · iexact H5
    isplitl [H6]; · iexact H6
    iexact HR
  isplitl [Hv0 Hv1 HS]
  · isplitl [Hv0]; · iexact Hv0
    isplitl [Hv1]; · iexact Hv1
    iexact HS
  iexists _
  isplitr
  swap
  · iexact HO
  ipureintro
  intro p hp
  rcases Finset.mem_insert.mp hp with rfl | hp
  · exact .inr rfl
  rcases Finset.mem_insert.mp hp with rfl | hp
  · exact .inr rfl
  exact .inl hp

/-! ## The scratch a tile is lent -/

/-- Three scratch buffers of a tile are among its own. -/
theorem ownBufs_three (d : Dev nD) (c : Fin τ.nSC) (i : Fin τ.nSub) (b0 b1 b2 : Ref sig .scVector)
    (h0 : ((Proc.scVector c i).devRef b0 : DevRef τ sig).owner = .proc (.scVector c i))
    (h1 : ((Proc.scVector c i).devRef b1 : DevRef τ sig).owner = .proc (.scVector c i))
    (h2 : ((Proc.scVector c i).devRef b2 : DevRef τ sig).owner = .proc (.scVector c i))
    (n10 : b1 ≠ b0) (n21 : b2 ≠ b1) (n20 : b2 ≠ b0) :
    ∃ R : sProp (MM F), (ownBufs (V d c i) : sProp (MM F))
      = iprop((∃ A, owns (V d c i) (Memref.whole b0) fullShare A) ∗ (∃ A, owns (V d c i) (Memref.whole b1) fullShare A)
          ∗ (∃ A, owns (V d c i) (Memref.whole b2) fullShare A) ∗ R) := by
  have e : ∀ b : Ref sig .scVector, (iprop(∃ A, owns (V d c i) (Memref.whole b) fullShare A) : sProp (MM F))
      = iprop(∃ f, ((d, (Proc.scVector c i).devRef b) : Loc nD τ sig) ↦{fullShare} f) := fun b =>
    congrArg (fun G : b.ty.Contents (Elt F) → sProp (MM F) => iprop(∃ f, G f)) (funext fun f => owns_whole (V d c i) b fullShare f)
  refine ⟨bigSep ((((ownRefs (τ := τ) (.scVector c i)).erase ((Proc.scVector c i).devRef b0)).erase
    ((Proc.scVector c i).devRef b1)).erase ((Proc.scVector c i).devRef b2))
      fun b => iprop(∃ f, ((d, b) : Loc nD τ sig) ↦{fullShare} f), ?_⟩
  unfold SparseCore.Cfg.ownBufs
  rw [e, e, e]
  refine (SparseCore.bigSep_erase' (SparseCore.Cfg.mem_ownRefs_of_owner (p := Proc.scVector c i) (b := (Proc.scVector c i).devRef b0) h0)).trans ?_
  rw [SparseCore.bigSep_erase' (Finset.mem_erase.mpr ⟨fun e => absurd (Proc.devRef_injective _ e) n10,
      SparseCore.Cfg.mem_ownRefs_of_owner (p := Proc.scVector c i) (b := (Proc.scVector c i).devRef b1) h1⟩),
    SparseCore.bigSep_erase' (Finset.mem_erase.mpr ⟨fun e => absurd (Proc.devRef_injective _ e) n21,
      Finset.mem_erase.mpr ⟨fun e => absurd (Proc.devRef_injective _ e) n20,
        SparseCore.Cfg.mem_ownRefs_of_owner (p := Proc.scVector c i) (b := (Proc.scVector c i).devRef b2) h2⟩⟩)]

/-- Two scoped semaphores of a tile are among its own. -/
theorem ownSems_two (d : Dev nD) (c : Fin τ.nSC) (i : Fin τ.nSub) (s0 s1 : SemLoc sig)
    (h0 : s0.isScoped .scVector = true) (h1 : s1.isScoped .scVector = true) (n : s1 ≠ s0) :
    ∃ R : sProp (MM F), (ownSems0 (V d c i) : sProp (MM F))
      = iprop(semVal ((V d c i, s0) : GSem nD τ sig) 0 ∗ semVal ((V d c i, s1) : GSem nD τ sig) 0 ∗ R) := by
  refine ⟨bigSep (((ownCells (V d c i)).erase (V d c i, s0)).erase (V d c i, s1)) fun g => semVal g 0, ?_⟩
  unfold SparseCore.Cfg.ownSems0
  rw [SparseCore.bigSep_erase' ((mem_ownCells (g := (V d c i, s0))).mpr ⟨rfl, h0⟩),
    SparseCore.bigSep_erase' (Finset.mem_erase.mpr ⟨fun e => n (Prod.mk.inj e).2, (mem_ownCells (g := (V d c i, s1))).mpr ⟨rfl, h1⟩⟩)]

/-! ## What the two calls hand each tile, and what they get back -/

variable (m : (ℓ : Loc nD τ sig) → Buf (Elt F) ℓ)

/-- The two arguments. -/
abbrev argA (d : Dev nD) : S8x19x512x512.Idx → F .f32 := m ((T d : Thread nD τ).loc main_arg0)
abbrev argB (d : Dev nD) : S8x512x512.Idx → BitVec 32 := m ((T d : Thread nD τ).loc main_arg1)

/-- The histograms the two calls leave. -/
def hist1 (d : Dev nD) : S96x128.Idx → F .f32 := hist 384 (codes1 (argA m d) (argB m d))
def hist2 (d : Dev nD) : S96x128.Idx → F .f32 := hist 128 (codes2 (argA m d) (argB m d))

/-- A share of the codes and one of the result, this at the contents `H`, in each of the two calls. -/
def lend1 (d : Dev nD) (w : Fin 32) (H : S96x128.Idx → F .f32) : sProp (MM F) :=
  iprop(((T d : Thread nD τ).loc main_v0 ↦[share1 w]{fullShare} Label.comb1 (argA m d) (argB m d))
    ∗ ((T d : Thread nD τ).loc main_v1 ↦[share3 w]{fullShare} H))
def lend2 (d : Dev nD) (w : Fin 32) (H : S96x128.Idx → F .f32) : sProp (MM F) :=
  iprop(((T d : Thread nD τ).loc main_v2 ↦[share2 w]{fullShare} Label.comb2 (argA m d) (argB m d))
    ∗ ((T d : Thread nD τ).loc main_v3 ↦[share3 w]{fullShare} H))

theorem codeAt_lt (A : S8x19x512x512.Idx → F .f32) (B : S8x512x512.Idx → BitVec 32) (p : Nat) : (Label.codeAt A B p).toNat < 384 :=
  (Label.codeAt_le A B p).trans_lt (by omega)

abbrev cV1 (L : grid1.Coords) : Fin τ.nSC := (L 0).castLE hcore1
abbrev jV1 (L : grid1.Coords) : Fin τ.nSub := (L 1).castLE hsub1
abbrev cV3 (L : grid3.Coords) : Fin τ.nSC := (L 0).castLE hcore3
abbrev jV3 (L : grid3.Coords) : Fin τ.nSub := (L 1).castLE hsub3

/-- Where slot `j` of row `t` of a tile's codes lies. -/
theorem off1_at (t : Fin k1_t1_loop.trips) : ∀ j : Fin 8, Hist.off1 t j = ![t.val, 16 * j.val]
  | ⟨0, _⟩ => k1_off2_eq t
  | ⟨1, _⟩ => k1_off3_eq t
  | ⟨2, _⟩ => k1_off4_eq t
  | ⟨3, _⟩ => k1_off5_eq t
  | ⟨4, _⟩ => k1_off6_eq t
  | ⟨5, _⟩ => k1_off7_eq t
  | ⟨6, _⟩ => k1_off8_eq t
  | ⟨7, _⟩ => k1_off9_eq t

/-- Where slot `j` of row `t` of a tile's codes lies. -/
theorem off3_at (t : Fin k3_t1_loop.trips) : ∀ j : Fin 8, Hist.off3 t j = ![t.val, 16 * j.val]
  | ⟨0, _⟩ => k3_off2_eq t
  | ⟨1, _⟩ => k3_off3_eq t
  | ⟨2, _⟩ => k3_off4_eq t
  | ⟨3, _⟩ => k3_off5_eq t
  | ⟨4, _⟩ => k3_off6_eq t
  | ⟨5, _⟩ => k3_off7_eq t
  | ⟨6, _⟩ => k3_off8_eq t
  | ⟨7, _⟩ => k3_off9_eq t

set_option maxRecDepth 4096 in
/-- A tile's task in the first call. -/
theorem tile_body1 (d : Dev nD) (L : grid1.Coords) (w : Fin 32) (hw : w.val = 2 * (L 1).val + (L 0).val)
    (H : S96x128.Idx → F .f32) {O : CellTallies nD τ sig (HIx 2)} {W : Waits sig (HIx 2)} (hO : ∀ g, O g none = 0) :
    iprop(levAts (K (F := F)).L (K (F := F)).lev ∗ lend1 m d w H
        ∗ scopedBufs (V d (cV1 L) (jV1 L)) ∗ scopedSems0 (V d (cV1 L) (jV1 L)) ∗ owes (V d (cV1 L) (jV1 L)) O W : sProp (MM F))
      ⊢ wp frame (wpE (defs₀ (F := F)) 𝒱₀ (V d (cV1 L) (jV1 L)) none) Set.univ
          (cc1_hist_call L (Memref.whole main_v0_scv) (Memref.isWhole_whole _) (Memref.whole main_v1_scv) (Memref.isWhole_whole _)
            (Memref.whole cc1_scratch0) (Memref.isWhole_whole _) (Memref.whole cc1_scratch1) (Memref.isWhole_whole _)
            (Memref.whole cc1_scratch2) (Memref.isWhole_whole _) cc1_scoped0 cc1_scoped1)
          fun _ => iprop(lend1 m d w (hist1 m d)
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  obtain ⟨R, hR⟩ := ownBufs_three (F := F) d (cV1 L) (jV1 L) cc1_scratch0 cc1_scratch1 cc1_scratch2 rfl rfl rfl (by decide) (by decide) (by decide)
  obtain ⟨S, hS⟩ := ownSems_two (F := F) d (cV1 L) (jV1 L) (.dma cc1_scoped0.sem) (.dma cc1_scoped1.sem) (by decide) (by decide) (by decide)
  have hs := owns_share (F := F) d (cV1 L) (jV1 L) main_v0_scv (Rect.unit (s := S12288x128) (k1_off1 L) S384x128.size (k1_off1_inb L))
    (Rect.part (s := S12288x128) (a₀ := 0) div1 w) (fun _ => rfl) (by rw [rect1 L w hw])
    (X := Hist.rows (F := F) 384 fun r k => codes1 (argA m d) (argB m d) (384 * w.val + r) k)
    (g := Label.comb1 (argA m d) (argB m d)) fun j => rows1 _ _ w.val j _
      ((emb_rows (k1_off1_eq L) j 0).trans (congrArg (· + (j 0).val) (show 768 * (L 1).val + 384 * (L 0).val = 384 * w.val by omega)))
      ((emb_rows (k1_off1_eq L) j 1).trans (Nat.zero_add _))
  have h0 := owns_share (F := F) d (cV1 L) (jV1 L) main_v1_scv (Rect.unit (s := S96x128) (k1_off10 L) S3x128.size (k1_off10_inb L))
    (Rect.part (s := S96x128) (a₀ := 0) div3 w) (fun _ => rfl) (by rw [rect1' L w hw]) (g := H) (fun _ => rfl)
  have h1 := owns_share (F := F) d (cV1 L) (jV1 L) main_v1_scv (Rect.unit (s := S96x128) (k1_off10 L) S3x128.size (k1_off10_inb L))
    (Rect.part (s := S96x128) (a₀ := 0) div3 w) (fun _ => rfl) (by rw [rect1' L w hw])
    (X := Hist.tileHist (F := F) 384 fun r k => codes1 (argA m d) (argB m d) (384 * w.val + r) k) (g := hist1 m d) fun j =>
    hist_rows 384 (codes1 (argA m d) (argB m d)) w.val j _
      ((emb_rows (k1_off10_eq L) j 0).trans (congrArg (· + (j 0).val) (show 6 * (L 1).val + 3 * (L 0).val = 3 * w.val by omega)))
      ((emb_rows (k1_off10_eq L) j 1).trans (Nat.zero_add _))
  have hb := Hist.body1_eq (F := F) L (Memref.whole main_v0_scv) (Memref.isWhole_whole _) (Memref.whole main_v1_scv) (Memref.isWhole_whole _)
            (Memref.whole cc1_scratch0) (Memref.isWhole_whole _) (Memref.whole cc1_scratch1) (Memref.isWhole_whole _)
            (Memref.whole cc1_scratch2) (Memref.isWhole_whole _) cc1_scoped0 cc1_scoped1
  generalize cc1_hist_call (F := F) L (Memref.whole main_v0_scv) (Memref.isWhole_whole _) (Memref.whole main_v1_scv) (Memref.isWhole_whole _)
            (Memref.whole cc1_scratch0) (Memref.isWhole_whole _) (Memref.whole cc1_scratch1) (Memref.isWhole_whole _)
            (Memref.whole cc1_scratch2) (Memref.isWhole_whole _) cc1_scoped0 cc1_scoped1 = body at hb ⊢
  have := tile_run (F := F) d (cV1 L) (jV1 L) (m := 384) (by omega)
    (C := fun r k => codes1 (argA m d) (argB m d) (384 * w.val + r) k) (fun r k => codeAt_lt _ _ _)
    (src := (Memref.whole main_v0_scv : Memref sig .scVector .hbm S12288x128 .i32).slice (Rect.unit (s := S12288x128) (k1_off1 L) S384x128.size (k1_off1_inb L)) (fun _ => rfl))
    (dst := (Memref.whole main_v1_scv : Memref sig .scVector .hbm S96x128 .f32).slice (Rect.unit (s := S96x128) (k1_off10 L) S3x128.size (k1_off10_inb L)) (fun _ => rfl))
    (arg4 := Memref.whole cc1_scratch0) (arg5 := Memref.whole cc1_scratch1) (arg6 := Memref.whole cc1_scratch2)
    (View.wordExact_bits rfl) (Memref.isWhole_whole _).wordExact (Memref.isWhole_whole _).wordExact (View.wordExact_bits rfl)
    k1_t1_loop k1_t1_ok (by decide +kernel) Hist.off1 off1_at Hist.inb1 cc1_scoped0 cc1_scoped1
    hs h0 h1 hR hS hb (W := W) hO
  unfold lend1
  exact this

set_option maxRecDepth 4096 in
/-- A tile's task in the second call. -/
theorem tile_body2 (d : Dev nD) (L : grid3.Coords) (w : Fin 32) (hw : w.val = 2 * (L 1).val + (L 0).val)
    (H : S96x128.Idx → F .f32) {O : CellTallies nD τ sig (HIx 2)} {W : Waits sig (HIx 2)} (hO : ∀ g, O g none = 0) :
    iprop(levAts (K (F := F)).L (K (F := F)).lev ∗ lend2 m d w H
        ∗ scopedBufs (V d (cV3 L) (jV3 L)) ∗ scopedSems0 (V d (cV3 L) (jV3 L)) ∗ owes (V d (cV3 L) (jV3 L)) O W : sProp (MM F))
      ⊢ wp frame (wpE (defs₀ (F := F)) 𝒱₀ (V d (cV3 L) (jV3 L)) none) Set.univ
          (cc3_hist_call L (Memref.whole main_v2_scv) (Memref.isWhole_whole _) (Memref.whole main_v3_scv) (Memref.isWhole_whole _)
            (Memref.whole cc3_scratch0) (Memref.isWhole_whole _) (Memref.whole cc3_scratch1) (Memref.isWhole_whole _)
            (Memref.whole cc3_scratch2) (Memref.isWhole_whole _) cc3_scoped0 cc3_scoped1)
          fun _ => iprop(lend2 m d w (hist2 m d)
            ∗ scopedBufs (V d (cV3 L) (jV3 L)) ∗ scopedSems0 (V d (cV3 L) (jV3 L))
            ∗ ∃ W', ⌜∀ p ∈ W', p ∈ W ∨ p.2 = none⌝ ∗ owes (V d (cV3 L) (jV3 L)) O W') := by
  obtain ⟨R, hR⟩ := ownBufs_three (F := F) d (cV3 L) (jV3 L) cc3_scratch0 cc3_scratch1 cc3_scratch2 rfl rfl rfl (by decide) (by decide) (by decide)
  obtain ⟨S, hS⟩ := ownSems_two (F := F) d (cV3 L) (jV3 L) (.dma cc3_scoped0.sem) (.dma cc3_scoped1.sem) (by decide) (by decide) (by decide)
  have hs := owns_share (F := F) d (cV3 L) (jV3 L) main_v2_scv (Rect.unit (s := S4096x128) (k3_off1 L) S128x128.size (k3_off1_inb L))
    (Rect.part (s := S4096x128) (a₀ := 0) div2 w) (fun _ => rfl) (by rw [rect2 L w hw])
    (X := Hist.rows (F := F) 128 fun r k => codes2 (argA m d) (argB m d) (128 * w.val + r) k)
    (g := Label.comb2 (argA m d) (argB m d)) fun j => rows2 _ _ w.val j _
      ((emb_rows (k3_off1_eq L) j 0).trans (congrArg (· + (j 0).val) (show 256 * (L 1).val + 128 * (L 0).val = 128 * w.val by omega)))
      ((emb_rows (k3_off1_eq L) j 1).trans (Nat.zero_add _))
  have h0 := owns_share (F := F) d (cV3 L) (jV3 L) main_v3_scv (Rect.unit (s := S96x128) (k3_off10 L) S3x128.size (k3_off10_inb L))
    (Rect.part (s := S96x128) (a₀ := 0) div3 w) (fun _ => rfl) (by rw [rect2' L w hw]) (g := H) (fun _ => rfl)
  have h1 := owns_share (F := F) d (cV3 L) (jV3 L) main_v3_scv (Rect.unit (s := S96x128) (k3_off10 L) S3x128.size (k3_off10_inb L))
    (Rect.part (s := S96x128) (a₀ := 0) div3 w) (fun _ => rfl) (by rw [rect2' L w hw])
    (X := Hist.tileHist (F := F) 128 fun r k => codes2 (argA m d) (argB m d) (128 * w.val + r) k) (g := hist2 m d) fun j =>
    hist_rows 128 (codes2 (argA m d) (argB m d)) w.val j _
      ((emb_rows (k3_off10_eq L) j 0).trans (congrArg (· + (j 0).val) (show 6 * (L 1).val + 3 * (L 0).val = 3 * w.val by omega)))
      ((emb_rows (k3_off10_eq L) j 1).trans (Nat.zero_add _))
  have hb := Hist.body3_eq (F := F) L (Memref.whole main_v2_scv) (Memref.isWhole_whole _) (Memref.whole main_v3_scv) (Memref.isWhole_whole _)
            (Memref.whole cc3_scratch0) (Memref.isWhole_whole _) (Memref.whole cc3_scratch1) (Memref.isWhole_whole _)
            (Memref.whole cc3_scratch2) (Memref.isWhole_whole _) cc3_scoped0 cc3_scoped1
  generalize cc3_hist_call (F := F) L (Memref.whole main_v2_scv) (Memref.isWhole_whole _) (Memref.whole main_v3_scv) (Memref.isWhole_whole _)
            (Memref.whole cc3_scratch0) (Memref.isWhole_whole _) (Memref.whole cc3_scratch1) (Memref.isWhole_whole _)
            (Memref.whole cc3_scratch2) (Memref.isWhole_whole _) cc3_scoped0 cc3_scoped1 = body at hb ⊢
  have := tile_run (F := F) d (cV3 L) (jV3 L) (m := 128) (by omega)
    (C := fun r k => codes2 (argA m d) (argB m d) (128 * w.val + r) k) (fun r k => codeAt_lt _ _ _)
    (src := (Memref.whole main_v2_scv : Memref sig .scVector .hbm S4096x128 .i32).slice (Rect.unit (s := S4096x128) (k3_off1 L) S128x128.size (k3_off1_inb L)) (fun _ => rfl))
    (dst := (Memref.whole main_v3_scv : Memref sig .scVector .hbm S96x128 .f32).slice (Rect.unit (s := S96x128) (k3_off10 L) S3x128.size (k3_off10_inb L)) (fun _ => rfl))
    (arg4 := Memref.whole cc3_scratch0) (arg5 := Memref.whole cc3_scratch1) (arg6 := Memref.whole cc3_scratch2)
    (View.wordExact_bits rfl) (Memref.isWhole_whole _).wordExact (Memref.isWhole_whole _).wordExact (View.wordExact_bits rfl)
    k3_t1_loop k3_t1_ok (by decide +kernel) Hist.off3 off3_at Hist.inb3 cc3_scoped0 cc3_scoped1
    hs h0 h1 hR hS hb (W := W) hO
  unfold lend2
  exact this

end Cert.KernelIdeal.Launch
-- ==== Proof.Deal.lean ====
/- What the two SparseCore calls carry: each tile's share of the codes and of the result, lent and brought back. -/
module

public import proofs.«01_k».proof.Proof.Tiles

@[expose] public section

noncomputable section

namespace Cert.KernelIdeal.Launch

open Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

/-! ## The tiles, numbered -/

theorem nCore_eq : ∀ q : Fin 2, (K (F := F)).nCore q = 2
  | 0 => rfl
  | 1 => rfl
theorem nSub_eq : ∀ q : Fin 2, (K (F := F)).nSub q = 16
  | 0 => rfl
  | 1 => rfl

/-- Subcore `i` of core `c` has number `2 i + c`. -/
def wid (q : Fin 2) (c : Fin ((K (F := F)).nCore q)) (i : Fin ((K (F := F)).nSub q)) : Fin 32 :=
  finProdFinEquiv (Fin.cast (nSub_eq q) i, Fin.cast (nCore_eq q) c)

theorem wid_val (q : Fin 2) (c : Fin ((K (F := F)).nCore q)) (i : Fin ((K (F := F)).nSub q)) :
    (wid q c i).val = 2 * i.val + c.val := Nat.add_comm _ _

/-- One piece for each subcore of each core is one for each number. -/
theorem bigSep_tiles (q : Fin 2) (Φ : Fin 32 → sProp (MM F)) :
    (bigSep Finset.univ fun c : Fin ((K (F := F)).nCore q) => bigSep Finset.univ fun i : Fin ((K (F := F)).nSub q) => Φ (wid q c i))
      = bigSep Finset.univ Φ := by
  have h : (bigSep Finset.univ fun c : Fin 2 => bigSep Finset.univ fun i : Fin 16 => Φ (finProdFinEquiv (i, c))) = bigSep Finset.univ Φ := by
    rw [bigSep_univ_comm, bigSep_univ_equiv (finProdFinEquiv (m := 16) (n := 2)) Φ, bigSep_univ_prod]
  match q with
  | 0 => exact h
  | 1 => exact h

/-! ## What is carried -/

/-- Tile `w`'s share in call `q`, -/
def lend (q : Fin 2) (d : Dev nD) (w : Fin 32) (H : S96x128.Idx → F .f32) : sProp (MM F) :=
  match q with
  | 0 => lend1 m d w H
  | 1 => lend2 m d w H
/-- and all the tiles' together. -/
def lent (q : Fin 2) (d : Dev nD) (H : S96x128.Idx → F .f32) : sProp (MM F) :=
  match q with
  | 0 => iprop(((T d : Thread nD τ).loc main_v0 ↦{fullShare} Label.comb1 (argA m d) (argB m d)) ∗ ((T d : Thread nD τ).loc main_v1 ↦{fullShare} H))
  | 1 => iprop(((T d : Thread nD τ).loc main_v2 ↦{fullShare} Label.comb2 (argA m d) (argB m d)) ∗ ((T d : Thread nD τ).loc main_v3 ↦{fullShare} H))

/-- What a call's result holds before it, -/
def old (q : Fin 2) (d : Dev nD) : S96x128.Idx → F .f32 :=
  match q with
  | 0 => m ((T d : Thread nD τ).loc main_v1)
  | 1 => m ((T d : Thread nD τ).loc main_v3)
/-- and after it. -/
def new (q : Fin 2) (d : Dev nD) : S96x128.Idx → F .f32 :=
  match q with
  | 0 => hist1 m d
  | 1 => hist2 m d

theorem lent_eq (d : Dev nD) (H : S96x128.Idx → F .f32) : ∀ q : Fin 2,
    (bigSep Finset.univ fun c : Fin ((K (F := F)).nCore q) => bigSep Finset.univ fun i : Fin ((K (F := F)).nSub q) => lend m q d (wid q c i) H)
      = lent m q d H := fun q => by
  rw [bigSep_tiles q fun w => lend m q d w H]
  match q with
  | 0 =>
    show bigSep Finset.univ (fun w => lend1 m d w H) = iprop(_ ∗ _)
    unfold lend1
    rw [bigSep_sep', pts_shares (ℓ := (T d : Thread nD τ).loc main_v0) share1 (Rect.part_disjoint div1) (Rect.biUnion_part div1), pts_shares (ℓ := (T d : Thread nD τ).loc main_v1) share3 (Rect.part_disjoint div3) (Rect.biUnion_part div3)]
  | 1 =>
    show bigSep Finset.univ (fun w => lend2 m d w H) = iprop(_ ∗ _)
    unfold lend2
    rw [bigSep_sep', pts_shares (ℓ := (T d : Thread nD τ).loc main_v2) share2 (Rect.part_disjoint div2) (Rect.biUnion_part div2), pts_shares (ℓ := (T d : Thread nD τ).loc main_v3) share3 (Rect.part_disjoint div3) (Rect.biUnion_part div3)]

/-- The two calls lend every tile its share, through its core, and take it back with the histogram written. -/
def P : (K (F := F)).Pay (nD := nD) (Val := Elt F) (Name := ℕ) (U := UU) where
  st q d c := bigSep Finset.univ fun i : Fin ((K (F := F)).nSub q) => lend m q d (wid q c i) (old m q d)
  dn q d c := bigSep Finset.univ fun i : Fin ((K (F := F)).nSub q) => lend m q d (wid q c i) (new m q d)
  go q d c i := lend m q d (wid q c i) (old m q d)
  td q d c i := lend m q d (wid q c i) (new m q d)
  x _ _ := iprop(emp)

instance lend_storable (q : Fin 2) (d : Dev nD) (w : Fin 32) (H : S96x128.Idx → F .f32) :
    BI.Storable (upEmb : UEmb _ (MM F)) (lend m q d w H) :=
  match q with
  | 0 => (inferInstance : BI.Storable (upEmb : UEmb _ (MM F))
      iprop(((T d : Thread nD τ).loc main_v0 ↦[share1 w]{fullShare} Label.comb1 (argA m d) (argB m d)) ∗ ((T d : Thread nD τ).loc main_v1 ↦[share3 w]{fullShare} H)))
  | 1 => (inferInstance : BI.Storable (upEmb : UEmb _ (MM F))
      iprop(((T d : Thread nD τ).loc main_v2 ↦[share2 w]{fullShare} Label.comb2 (argA m d) (argB m d)) ∗ ((T d : Thread nD τ).loc main_v3 ↦[share3 w]{fullShare} H)))

instance P_storable : (P (F := F) m).IsStorable where
  st q d c := (inferInstance : BI.Storable (upEmb : UEmb _ (MM F)) (bigSep Finset.univ fun i : Fin ((K (F := F)).nSub q) => lend m q d (wid q c i) (old m q d)))
  dn q d c := (inferInstance : BI.Storable (upEmb : UEmb _ (MM F)) (bigSep Finset.univ fun i : Fin ((K (F := F)).nSub q) => lend m q d (wid q c i) (new m q d)))
  go q d c i := lend_storable m q d _ _
  td q d c i := lend_storable m q d _ _

/-! ## The tasks -/

theorem task_post {thr : Thread nD τ} {A B C : sProp (MM F)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  · iexact HO

/-- A tile's place in the first call's grid. -/
abbrev place1 (c : Fin (grid1.bound 0)) (s : Fin (grid1.bound 1)) : grid1.Coords :=
  (fun | 0 => c | 1 => s | ⟨_ + 2, h⟩ => absurd h (Nat.not_lt.2 (Nat.le_add_left _ _)))

/-- The task it runs. -/
theorem task1_eq (c : Fin τ.nSC) (s : Fin τ.nSub) :
    defs₀ (F := F) (.scVector c s) 1 ()
      = SparseCore.onTile hcore1 hsub1 (fun c s => cc1_hist_call (place1 c s) (Memref.whole main_v0_scv) (Memref.isWhole_whole _) (Memref.whole main_v1_scv) (Memref.isWhole_whole _)
            (Memref.whole cc1_scratch0) (Memref.isWhole_whole _) (Memref.whole cc1_scratch1) (Memref.isWhole_whole _)
            (Memref.whole cc1_scratch2) (Memref.isWhole_whole _) cc1_scoped0 cc1_scoped1) ⟨⟩ c s := rfl

/-- `tile_body1` at a tile given by its core and subcore. -/
theorem tile_at1 (d : Dev nD) (L : grid1.Coords) (c : Fin τ.nSC) (s : Fin τ.nSub) (hc : c = cV1 L) (hs : s = jV1 L)
    (body : Prog (TpuEff nD τ sig (Elt F) Λ₀ (.scVector c s)) PUnit)
    (hb : body ≍ cc1_hist_call (F := F) L (Memref.whole main_v0_scv) (Memref.isWhole_whole _) (Memref.whole main_v1_scv) (Memref.isWhole_whole _)
            (Memref.whole cc1_scratch0) (Memref.isWhole_whole _) (Memref.whole cc1_scratch1) (Memref.isWhole_whole _)
            (Memref.whole cc1_scratch2) (Memref.isWhole_whole _) cc1_scoped0 cc1_scoped1)
    (w : Fin 32) (hw : w.val = 2 * (L 1).val + (L 0).val)
    (H : S96x128.Idx → F .f32) {O : CellTallies nD τ sig (HIx 2)} {W : Waits sig (HIx 2)} (hO : ∀ g, O g none = 0) :
    iprop(levAts (K (F := F)).L (K (F := F)).lev ∗ lend1 m d w H ∗ scopedBufs (V d c s) ∗ scopedSems0 (V d c s) ∗ owes (V d c s) O W : sProp (MM F))
      ⊢ wp frame (wpE (defs₀ (F := F)) 𝒱₀ (V d c s) none) Set.univ body
          fun _ => iprop(lend1 m d w (hist1 m d) ∗ scopedBufs (V d c s) ∗ scopedSems0 (V d c s)
            ∗ ∃ W', ⌜∀ p ∈ W', p ∈ W ∨ p.2 = none ∨ p.2 = some 0⌝ ∗ owes (V d c s) O W') := by
  subst hc hs
  obtain rfl := eq_of_heq hb
  exact (tile_body1 m d L w hw H hO).trans (wp_mono frame _ _ fun _ => task_post)

set_option maxRecDepth 4096 in
/-- Every tile's task in the first call. -/
theorem tileObl_0 : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [task1_eq]; simp only [SparseCore.onTile, hc, and_self, ↓reduceDIte]
  rw [show (P m).go 0 d c i = lend1 m d (wid 0 c i) (old m 0 d) from rfl, show (P m).td 0 d c i = lend1 m d (wid 0 c i) (hist1 m d) from rfl]
  have h := tile_at1 m d (place1 ⟨_, hc.1⟩ ⟨_, hc.2⟩) ((K (F := F)).core 0 c) ((K (F := F)).sub 0 i) rfl rfl _ HEq.rfl (wid 0 c i) (wid_val 0 c i) (old m 0 d) (W := W) hO
  refine (show BIBase.Entails (PROP := sProp (MM F)) _ _ from ?_)
  have h' := (sep_mono_right (P := levAts (K (F := F)).L (K (F := F)).lev) (sep_elim_right (P := (P m).x 0 (V d ((K (F := F)).core 0 c) ((K (F := F)).sub 0 i))))).trans h
  exact h'.trans (Entails.of_eq (by congr 1))

/-- A tile's place in the second call's grid. -/
abbrev place3 (c : Fin (grid3.bound 0)) (s : Fin (grid3.bound 1)) : grid3.Coords :=
  (fun | 0 => c | 1 => s | ⟨_ + 2, h⟩ => absurd h (Nat.not_lt.2 (Nat.le_add_left _ _)))

/-- The task it runs. -/
theorem task3_eq (c : Fin τ.nSC) (s : Fin τ.nSub) :
    defs₀ (F := F) (.scVector c s) 3 ()
      = SparseCore.onTile hcore3 hsub3 (fun c s => cc3_hist_call (place3 c s) (Memref.whole main_v2_scv) (Memref.isWhole_whole _) (Memref.whole main_v3_scv) (Memref.isWhole_whole _)
            (Memref.whole cc3_scratch0) (Memref.isWhole_whole _) (Memref.whole cc3_scratch1) (Memref.isWhole_whole _)
            (Memref.whole cc3_scratch2) (Memref.isWhole_whole _) cc3_scoped0 cc3_scoped1) ⟨⟩ c s := rfl

/-- `tile_body2` at a tile given by its core and subcore. -/
theorem tile_at2 (d : Dev nD) (L : grid3.Coords) (c : Fin τ.nSC) (s : Fin τ.nSub) (hc : c = cV3 L) (hs : s = jV3 L)
    (body : Prog (TpuEff nD τ sig (Elt F) Λ₀ (.scVector c s)) PUnit)
    (hb : body ≍ cc3_hist_call (F := F) L (Memref.whole main_v2_scv) (Memref.isWhole_whole _) (Memref.whole main_v3_scv) (Memref.isWhole_whole _)
            (Memref.whole cc3_scratch0) (Memref.isWhole_whole _) (Memref.whole cc3_scratch1) (Memref.isWhole_whole _)
            (Memref.whole cc3_scratch2) (Memref.isWhole_whole _) cc3_scoped0 cc3_scoped1)
    (w : Fin 32) (hw : w.val = 2 * (L 1).val + (L 0).val)
    (H : S96x128.Idx → F .f32) {O : CellTallies nD τ sig (HIx 2)} {W : Waits sig (HIx 2)} (hO : ∀ g, O g none = 0) :
    iprop(levAts (K (F := F)).L (K (F := F)).lev ∗ lend2 m d w H ∗ scopedBufs (V d c s) ∗ scopedSems0 (V d c s) ∗ owes (V d c s) O W : sProp (MM F))
      ⊢ wp frame (wpE (defs₀ (F := F)) 𝒱₀ (V d c s) none) Set.univ body
          fun _ => iprop(lend2 m d w (hist2 m d) ∗ scopedBufs (V d c s) ∗ scopedSems0 (V d c s)
            ∗ ∃ W', ⌜∀ p ∈ W', p ∈ W ∨ p.2 = none ∨ p.2 = some 1⌝ ∗ owes (V d c s) O W') := by
  subst hc hs
  obtain rfl := eq_of_heq hb
  exact (tile_body2 m d L w hw H hO).trans (wp_mono frame _ _ fun _ => task_post)

set_option maxRecDepth 4096 in
/-- Every tile's task in the second call. -/
theorem tileObl_1 : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [task3_eq]; simp only [SparseCore.onTile, hc, and_self, ↓reduceDIte]
  rw [show (P m).go 1 d c i = lend2 m d (wid 1 c i) (old m 1 d) from rfl, show (P m).td 1 d c i = lend2 m d (wid 1 c i) (hist2 m d) from rfl]
  have h := tile_at2 m d (place3 ⟨_, hc.1⟩ ⟨_, hc.2⟩) ((K (F := F)).core 1 c) ((K (F := F)).sub 1 i) rfl rfl _ HEq.rfl (wid 1 c i) (wid_val 1 c i) (old m 1 d) (W := W) hO
  refine (show BIBase.Entails (PROP := sProp (MM F)) _ _ from ?_)
  have h' := (sep_mono_right (P := levAts (K (F := F)).L (K (F := F)).lev) (sep_elim_right (P := (P m).x 1 (V d ((K (F := F)).core 1 c) ((K (F := F)).sub 1 i))))).trans h
  exact h'.trans (Entails.of_eq (by congr 1))

/-! ## What a core takes and brings back is its tiles' -/

theorem vecSplit (q : Fin 2) : (K (F := F)).VecSplit' (P m) q := by
  intro d c
  show (bigSep Finset.univ fun i : Fin ((K (F := F)).nSub q) => lend m q d (wid q c i) (old m q d)) ⊢ |={Set.univ}=> iprop(
      (bigSep Finset.univ fun i : Fin ((K (F := F)).nSub q) => lend m q d (wid q c i) (old m q d))
      ∗ ((bigSep Finset.univ fun i : Fin ((K (F := F)).nSub q) => lend m q d (wid q c i) (new m q d))
          -∗ bigSep Finset.univ fun i : Fin ((K (F := F)).nSub q) => lend m q d (wid q c i) (new m q d)))
  iintro H; imodintro
  isplitl [H]; · iexact H
  iintro H; iexact H

theorem st_eq (q : Fin 2) (d : Dev nD) :
    (bigSep Finset.univ fun c : Fin ((K (F := F)).nCore q) => (P m).st q d c) = lent m q d (old m q d) := lent_eq m d _ q
theorem dn_eq (q : Fin 2) (d : Dev nD) :
    (bigSep Finset.univ fun c : Fin ((K (F := F)).nCore q) => (P m).dn q d c) = lent m q d (new m q d) := lent_eq m d _ q

end Cert.KernelIdeal.Launch
-- ==== Proof.LabelRun.lean ====
/- The labelling kernel's body, run from its three staging buffers: it leaves the block's codes in the third. -/
module

public import proofs.«01_k».proof.Proof.LabelValue
public import proofs.«01_k».proof.Proof.OwnsRules
public import proofs.«01_k».proof.Proof.Gen.KernelIdeal.Skeleton

@[expose] public section

noncomputable section

namespace Cert.KernelIdeal.Label

open Idealize.ShloMosaic
open Idealize.ShloMosaic.TcCoe
open Idealize.SL Idealize.SL.Sem Idealize.SL.ProofMode Idealize.SL.RA
open Idealize.SL.BI (sProp)
open scoped Idealize.SL.BI
open Idealize.SL.BI.BIBase Idealize.SL.BI.Laws
open Gen

variable {F : FTy → Type} [FloatOps F]

/-- The block's pixel `y` in the plane of 256 rows of 512. -/
def pixel (y : S1024x128.Idx) : S256x512.Idx :=
  ValueIdx.ix2 ⟨(128 * (y 0).val + (y 1).val) / 512 % 256, Nat.mod_lt _ (by omega)⟩
    ⟨(128 * (y 0).val + (y 1).val) % 512, Nat.mod_lt _ (by omega)⟩

/-- Class `k`'s plane of the scores, taken out and flattened, at a pixel. -/
theorem plane (X : S1x19x256x512.Idx → F .f32) (k : Nat) (h1 : S1x19x256x512.ShapeCasts S19x256x512)
    (h2 : S19x256x512.Slices ![k, 0, 0] S1x256x512) (h3 : S1x256x512.ShapeCasts S256x512) (y : S1024x128.Idx) :
    shapeCast S256x512 (extractStridedSlice S1x256x512 ![k, 0, 0] (shapeCast S19x256x512 X h1) h2) h3 (pixel y)
      = X (scoreAt k y) := by
  have hk : k < 19 := by
    have := h2.2 0
    simp at this
    omega
  refine (shapeCast_apply _ h3 (pixel y) (ValueIdx.ix3 0 (pixel y 0) (pixel y 1)) ?_).trans ?_
  · rw [Shape.rowMajor_val_three, Shape.rowMajor_val_two]; simp [ValueIdx.ix3]
  refine (extractStridedSlice_apply _ _ h2 _ (ValueIdx.ix3 ⟨k, hk⟩ (pixel y 0) (pixel y 1)) ?_).trans ?_
  · intro a; fin_cases a <;> simp [ValueIdx.ix3]
  refine (shapeCast_apply _ h1 _ (scoreAt k y) ?_)
  rw [Shape.rowMajor_val_three, Shape.rowMajor_val_four]
  simp [ValueIdx.ix3, ValueIdx.ix4, ValueIdx.ix2, scoreAt, pixel, Nat.mod_eq_of_lt hk]

/-- The targets flattened, at a pixel. -/
theorem targets (T : S1x256x512.Idx → BitVec 32) (h : S1x256x512.ShapeCasts S256x512) (y : S1024x128.Idx) :
    shapeCast S256x512 T h (pixel y) = T (targetAt y) := by
  refine shapeCast_apply _ h (pixel y) (targetAt y) ?_
  rw [Shape.rowMajor_val_three, Shape.rowMajor_val_two]
  simp [ValueIdx.ix3, ValueIdx.ix2, targetAt, pixel]

/-- The plane of codes laid out as 1024 rows of 128. -/
theorem relaid (c : IVec S256x512 32) (h : S256x512.ShapeCasts S1024x128) (y : S1024x128.Idx) :
    shapeCast S1024x128 c h y = c (pixel y) := by
  refine shapeCast_apply _ h y (pixel y) ?_
  rw [Shape.rowMajor_val_two, Shape.rowMajor_val_two]
  have h0 : (y 0).val < 1024 := (y 0).isLt
  have h1 : (y 1).val < 128 := (y 1).isLt
  simp [ValueIdx.ix2, pixel]
  omega

/-- The scan after the classes 0 to 6. -/
theorem best6 (X : S1x19x256x512.Idx → F .f32) (y : S1024x128.Idx) :
    k0_pay23 X (pixel y) = best (fun k => X (scoreAt k y)) 6 := by
  simp only [k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24,
    ValueIdx.select_apply, ValueIdx.cmpf_apply, plane]
  rfl
theorem label6 (X : S1x19x256x512.Idx → F .f32) (y : S1024x128.Idx) :
    k0_pay22 X (pixel y) = label (fun k => X (scoreAt k y)) 6 := by
  simp only [k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24,
    ValueIdx.select_apply, ValueIdx.cmpf_apply, ValueIdx.broadcast_apply, plane]
  rfl

/-- The scan after the classes 7 to 14, from what it was after 6. -/
theorem best14 (X : S1x19x256x512.Idx → F .f32) (y : S1024x128.Idx) :
    k0_pay49 (k0_pay2 X) (k0_pay23 X) (k0_pay24 X) (pixel y) = best (fun k => X (scoreAt k y)) 14 := by
  have h := best6 X y
  generalize k0_pay23 X = v at h ⊢
  simp only [k0_pay2, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52,
    ValueIdx.select_apply, ValueIdx.cmpf_apply, plane, h]
  rfl
theorem label14 (X : S1x19x256x512.Idx → F .f32) (y : S1024x128.Idx) :
    k0_pay48 (k0_pay2 X) (k0_pay22 X) (k0_pay23 X) (k0_pay24 X) (pixel y) = label (fun k => X (scoreAt k y)) 14 := by
  have h := best6 X y
  have h' := label6 X y
  generalize k0_pay23 X = v at h ⊢
  generalize k0_pay22 X = w at h' ⊢
  simp only [k0_pay2, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52,
    ValueIdx.select_apply, ValueIdx.cmpf_apply, ValueIdx.broadcast_apply, plane, h, h']
  rfl

/-- What the body writes is the block's codes. -/
theorem payload (X : S1x19x256x512.Idx → F .f32) (T : S1x256x512.Idx → BitVec 32) :
    k0_pay1 (k0_pay2 X) (k0_pay3 (F := F) T) (k0_pay48 (k0_pay2 X) (k0_pay22 X) (k0_pay23 X) (k0_pay24 X))
      (k0_pay49 (k0_pay2 X) (k0_pay23 X) (k0_pay24 X)) (k0_pay50 (k0_pay2 X))
      (k0_pay51 (k0_pay2 X) (k0_pay23 X) (k0_pay24 X)) k0_pay52 = blockCode X T := by
  funext y
  have h := best14 X y
  have h' := label14 X y
  unfold k0_pay51
  generalize k0_pay49 (k0_pay2 X) (k0_pay23 X) (k0_pay24 X) = v at h ⊢
  generalize k0_pay48 (k0_pay2 X) (k0_pay22 X) (k0_pay23 X) (k0_pay24 X) = w at h' ⊢
  unfold k0_pay1
  refine (relaid _ _ y).trans ?_
  simp only [k0_pay2, k0_pay3, k0_pay50, k0_pay52, ValueIdx.select_apply, ValueIdx.cmpf_apply, ValueIdx.broadcast_apply,
    andi, cmpi, addi, muli, plane, targets, h, h']
  rfl

variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} {𝒱 : Variants} {bd : Option 𝒱.V} {E : Set Name}

/-- The body of the first labelling kernel. -/
theorem wp_body0 (d : Dev nD) (i : grid0.Coords) {A B C} (hA hB hC) {X T Z} {Q : PUnit → sProp 𝕄} :
    iprop(owns (d, .tc) A fullShare X ∗ owns (d, .tc) B fullShare T ∗ owns (d, .tc) C fullShare Z
      ∗ (iprop(owns (d, .tc) A fullShare X ∗ owns (d, .tc) B fullShare T ∗ owns (d, .tc) C fullShare (blockCode X T)) -∗ Q ⟨⟩))
      ⊢ wp frame (wpE defs 𝒱 ((d, .tc) : Thread nD τ) bd) E (cc0__label_kernel i A hA B hB C hC) Q := by
  rw [cc0__label_kernel_eq_skeleton]
  unfold cc0__label_kernel_skel
  rw [k0_part1_eq_skeleton, k0_part2_eq_skeleton]
  unfold k0_part1_skel k0_part2_skel
  simp only [Prog.lift, Prog.bind_op, Prog.bind_ret, Prog.pure_eq_ret]
  iintro ⟨HA, HB, HC, Hk⟩
  iapply Owns.loadWhole $$ HA; iintro HA
  iapply Owns.loadWhole $$ HB; iintro HB
  iapply Owns.loadWhole $$ HC; iintro HC
  iapply Owns.storeWhole $$ HC; iintro HC
  rw [wp_ret]; imodintro
  iapply Hk
  isplitl [HA]; · iexact HA
  isplitl [HB]; · iexact HB
  rw [payload]
  iexact HC

/-- The second labelling kernel has the first's text. -/
theorem text2 (i : grid2.Coords) (j : grid0.Coords) (A : Memref sig .tc .vmem S1x19x256x512 .f32) (hA) (B hB C hC) :
    cc2__label_kernel (F := F) i A hA B hB C hC = cc0__label_kernel j A hA B hB C hC := rfl

/-- The body of the second labelling kernel. -/
theorem wp_body2 (d : Dev nD) (i : grid2.Coords) {A B C} (hA hB hC) {X T Z} {Q : PUnit → sProp 𝕄} :
    iprop(owns (d, .tc) A fullShare X ∗ owns (d, .tc) B fullShare T ∗ owns (d, .tc) C fullShare Z
      ∗ (iprop(owns (d, .tc) A fullShare X ∗ owns (d, .tc) B fullShare T ∗ owns (d, .tc) C fullShare (blockCode X T)) -∗ Q ⟨⟩))
      ⊢ wp frame (wpE defs 𝒱 ((d, .tc) : Thread nD τ) bd) E (cc2__label_kernel i A hA B hB C hC) Q :=
  wp_body0 d (fun a => ⟨0, by fin_cases a <;> decide⟩) hA hB hC

end Cert.KernelIdeal.Label
-- ==== Proof.DiceRun.lean ====
/- The scoring kernel's body, run from its three staging buffers: what it leaves in the third, as a function of the two
   histograms. -/
module

public import proofs.«01_k».proof.Proof.OwnsRules
public import proofs.«01_k».proof.Proof.Gen.KernelIdeal.Skeleton

@[expose] public section

noncomputable section

namespace Cert.KernelIdeal.Dice

open Idealize.ShloMosaic
open Idealize.ShloMosaic.TcCoe
open Idealize.SL Idealize.SL.Sem Idealize.SL.ProofMode Idealize.SL.RA
open Idealize.SL.BI (sProp)
open scoped Idealize.SL.BI
open Idealize.SL.BI.BIBase Idealize.SL.BI.Laws
open Gen

variable {F : FTy → Type} [FloatOps F]

/-- The columns of the 96 partial rows, the rows and the columns of a block of 19 × 128. -/
abbrev part : IVec S1x96 32 := iota .tc S1x96 32 [1] iota_S1x96_d1_w32
abbrev row : IVec S19x128 32 := iota .tc S19x128 32 [0] iota_S19x128_d0_w32
abbrev col : IVec S19x128 32 := iota .tc S19x128 32 [1] iota_S19x128_d1_w32

/-- The three rows of the summed histogram: bins 0 to 127, 128 to 255 and 256 to 383. -/
def sum0 (H1 H2 : S96x128.Idx → F .f32) : S1x128.Idx → F .f32 := k4_pay4 H1 H2
def sum1 (H1 H2 : S96x128.Idx → F .f32) : S1x128.Idx → F .f32 := k4_pay17 (k4_pay2 H1 H2) part
def sum2 (H1 H2 : S96x128.Idx → F .f32) : S1x128.Idx → F .f32 := k4_pay30 (k4_pay2 H1 H2) part

/-- Each class's count on the diagonal, after one, two and three rows of bins. -/
def diag0 (h0 : S1x128.Idx → F .f32) : S19x1.Idx → F .f32 :=
  k4_pay14 k4_pay3 h0 (k4_pay9 k4_pay7 (Scalar.ofBits .f32 0x00000000#32) k4_pay8)
def diag1 (h0 h1 : S1x128.Idx → F .f32) : S19x1.Idx → F .f32 :=
  k4_pay27 (diag0 h0) h1 (k4_pay21 (k4_pay19 col) (k4_pay20 row col))
def diag2 (h0 h1 h2 : S1x128.Idx → F .f32) : S19x1.Idx → F .f32 :=
  k4_pay38 (diag1 h0 h1) h2 (k4_pay33 row (k4_pay31 col) (k4_pay32 col))

/-- Each class's count along its row of the matrix. -/
def rows0 (h0 : S1x128.Idx → F .f32) : S19x1.Idx → F .f32 := k4_pay15 k4_pay3 h0 (k4_pay10 row k4_pay5 k4_pay6)
def rows1 (h0 h1 : S1x128.Idx → F .f32) : S19x1.Idx → F .f32 :=
  k4_pay28 (rows0 h0) h1 (k4_pay22 row (k4_pay18 col) (k4_pay19 col))
def rows2 (h0 h1 h2 : S1x128.Idx → F .f32) : S19x1.Idx → F .f32 :=
  k4_pay39 (rows1 h0 h1) h2 (k4_pay34 row (k4_pay31 col) (k4_pay32 col))

/-- The divisor 19, as the text writes it. -/
abbrev nineteen : BitVec 32 := Scalar.select (Scalar.cmpi .eq 19#32 0#32) 1#32 19#32

/-- Each class's count down its column of the matrix. -/
def cols0 (h0 : S1x128.Idx → F .f32) : S19x1.Idx → F .f32 :=
  k4_pay16 row k4_pay3 h0 k4_pay6 (k4_pay11 k4_pay5) (k4_pay12 k4_pay5) k4_pay13
def cols1 (h0 h1 : S1x128.Idx → F .f32) : S19x1.Idx → F .f32 :=
  k4_pay29 row (cols0 h0) h1 (k4_pay19 col) nineteen (k4_pay23 (k4_pay18 col)) (k4_pay24 (k4_pay18 col))
    (k4_pay25 (k4_pay18 col)) k4_pay26
def cols2 (h0 h1 h2 : S1x128.Idx → F .f32) : S19x1.Idx → F .f32 :=
  k4_pay40 row (cols1 h0 h1) h2 (k4_pay32 col) nineteen (k4_pay35 (k4_pay31 col)) (k4_pay36 (k4_pay31 col)) k4_pay37

/-- A float number spread over the nineteen classes. -/
abbrev all (b : BitVec 32) : FVec F S19x1 .f32 := broadcast S19x1 (Scalar.ofBits (F := F) .f32 b)

/-- The scores from the three counts: `2 p r / (p + r + ε)` with `p = tp / (fp + ε)` and `r = tp / (fn + ε)`; not a
    number where both the truth and the prediction are empty and for class 0, zero where only the truth is. -/
def score (tp fp fn : S19x1.Idx → F .f32) : S19x1.Idx → F .f32 :=
  have p := divf tp (addf fp (all 0x322BCC77#32))
  have r := divf tp (addf fn (all 0x322BCC77#32))
  have truth := cmpf .oeq (addf tp fn) (all 0x00000000#32)
  have pred := cmpf .oeq (addf tp fp) (all 0x00000000#32)
  have s := divf (mulf (mulf (all 0x40000000#32) p) r) (addf (addf p r) (all 0x322BCC77#32))
  select (cmpi .eq (iota .tc S19x1 32 [0] iota_S19x1_d0_w32) (broadcast S19x1 0#32)) (all 0x7FC00000#32)
    (select (andi truth (xori pred (constantI S19x1 1 1#1))) (all 0x00000000#32)
      (select (andi truth pred) (all 0x7FC00000#32) s))

/-- What the scoring kernel leaves, from the two arrays of partial histograms. -/
def dice (H1 H2 : S96x128.Idx → F .f32) : S19x1.Idx → F .f32 :=
  score (diag2 (sum0 H1 H2) (sum1 H1 H2) (sum2 H1 H2)) (rows2 (sum0 H1 H2) (sum1 H1 H2) (sum2 H1 H2))
    (cols2 (sum0 H1 H2) (sum1 H1 H2) (sum2 H1 H2))

variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} {𝒱 : Variants} {bd : Option 𝒱.V} {E : Set Name}

/-- The body of the scoring kernel. -/
theorem wp_body4 (d : Dev nD) {A B C} (hA hB hC) {X T Z} {Q : PUnit → sProp 𝕄} :
    iprop(owns (d, .tc) A fullShare X ∗ owns (d, .tc) B fullShare T ∗ owns (d, .tc) C fullShare Z
      ∗ (iprop(owns (d, .tc) A fullShare X ∗ owns (d, .tc) B fullShare T ∗ owns (d, .tc) C fullShare (dice X T)) -∗ Q ⟨⟩))
      ⊢ wp frame (wpE defs 𝒱 ((d, .tc) : Thread nD τ) bd) E (cc4__dice_kernel A hA B hB C hC) Q := by
  rw [cc4__dice_kernel_eq_skeleton]
  unfold cc4__dice_kernel_skel
  rw [k4_part1_eq_skeleton, k4_part2_eq_skeleton, k4_part3_eq_skeleton, k4_part4_eq_skeleton, k4_part5_eq_skeleton,
    k4_part6_eq_skeleton, k4_part7_eq_skeleton]
  unfold k4_part1_skel k4_part2_skel k4_part3_skel k4_part4_skel k4_part5_skel k4_part6_skel k4_part7_skel
  simp only [Prog.lift, Prog.bind_op, Prog.bind_ret, Prog.pure_eq_ret]
  iintro ⟨HA, HB, HC, Hk⟩
  iapply Owns.loadWhole $$ HA; iintro HA
  iapply Owns.loadWhole $$ HB; iintro HB
  iapply Owns.loadWhole $$ HC; iintro HC
  iapply Owns.storeWhole $$ HC; iintro HC
  rw [wp_ret]; imodintro
  iapply Hk
  isplitl [HA]; · iexact HA
  isplitl [HB]; · iexact HB
  iexact HC

end Cert.KernelIdeal.Dice
-- ==== Proof.Regions.lean ====
/- The three TensorCore kernels of the program as steps of its main thread: each starts from the arrays in shared memory at
   some contents and leaves them with its result's array written. -/
module

public import proofs.«01_k».proof.Proof.Setup
public import proofs.«01_k».proof.Proof.Flat
public import proofs.«01_k».proof.Proof.LabelRun
public import proofs.«01_k».proof.Proof.DiceRun

@[expose] public section

noncomputable section

namespace Cert.KernelIdeal.Launch

open Cert.KernelIdeal.Gen
open Idealize.ShloMosaic Idealize.ShloMosaic.TcCoe
open Idealize.ShloMosaic.SparseCore (S V T)
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The contents of every buffer of a device's TensorCore. -/
abbrev Contents (F : FTy → Type) : Type := (d : Dev nD) → (b : Ref sig .tc) → Buf (Elt F) ((d : Thread nD τ).loc b)

variable (W : Contents F) (n : ℕ)

/-- Block `t` of an input array, as it is staged. -/
abbrev staged {cfg : Cfg sig Λ₀} (d : Dev nD) (w : Fin cfg.W) (t : Fin cfg.N)
    (A : Buf (Elt F) ((cfg.win w).arr.view.loc (d : Thread nD τ))) := ((cfg.win w).blk t).view.read (Elt F) A

/-- What the first labelling kernel's body leaves staged: its two inputs' blocks, and the block's codes. -/
def after0 (d : Dev nD) (w : Fin 3) (t : Fin cfg0.N) : (cfg0.win w).block.Idx → Elt F (cfg0.win w).elt :=
  match w with
  | ⟨0, _⟩ => staged d (cfg := cfg0) 0 t (W d main_arg0)
  | ⟨1, _⟩ => staged d (cfg := cfg0) 1 t (W d main_arg1)
  | ⟨2, _⟩ => Label.blockCode (staged d (cfg := cfg0) 0 t (W d main_arg0)) (staged d (cfg := cfg0) 1 t (W d main_arg1))

/-- The second's. -/
def after2 (d : Dev nD) (w : Fin 3) (t : Fin cfg2.N) : (cfg2.win w).block.Idx → Elt F (cfg2.win w).elt :=
  match w with
  | ⟨0, _⟩ => staged d (cfg := cfg2) 0 t (W d main_arg0)
  | ⟨1, _⟩ => staged d (cfg := cfg2) 1 t (W d main_arg1)
  | ⟨2, _⟩ => Label.blockCode (staged d (cfg := cfg2) 0 t (W d main_arg0)) (staged d (cfg := cfg2) 1 t (W d main_arg1))

/-- The last kernel's: its inputs, and the scores. -/
def after4 (d : Dev nD) (w : Fin 3) (t : Fin cfg4.N) : (cfg4.win w).block.Idx → Elt F (cfg4.win w).elt :=
  match w with
  | ⟨0, _⟩ => staged d (cfg := cfg4) 0 t (W d main_v1)
  | ⟨1, _⟩ => staged d (cfg := cfg4) 1 t (W d main_v3)
  | ⟨2, _⟩ => Dice.dice (staged d (cfg := cfg4) 0 t (W d main_v1)) (staged d (cfg := cfg4) 1 t (W d main_v3))

/-- A kernel of the TensorCore run from the contents `W` before call `n`: what its bodies leave staged is `after`; the other
    buffers of its core ride along, and so does what the thread owes. -/
def datOf (p : Fin 3) (d : Dev nD)
    (after : (w : Fin (Pipeline.pin (pcfgs (F := F)) adm p).W) → Fin (Pipeline.pin (pcfgs (F := F)) adm p).N →
      ((Pipeline.pin (pcfgs (F := F)) adm p).win w).block.Idx → Elt F ((Pipeline.pin (pcfgs (F := F)) adm p).win w).elt) :
    Dat τ (Elt F) (HIx 2) ℕ UU ℕ (Pipeline.pin (pcfgs (F := F)) adm p) d where
  A w := W d (Pipeline.arrRef (Pipeline.pin (pcfgs (F := F)) adm p).spec w)
  after := after
  Φ _ := Pipeline.scopedRest (Ix := HIx 2) (Name := ℕ) (U := UU) (Lvl := ℕ) (Val := Elt F) (Pipeline.pin (pcfgs (F := F)) adm p).spec d
  q _ := fullShare
  owed _ := (K (F := F)).Otc d n
  recorded _ := Waited (F := F) d n

/-- What the three leave staged. -/
def afters : (p : Fin 3) → (d : Dev nD) → (w : Fin (Pipeline.pin (pcfgs (F := F)) adm p).W) →
    Fin (Pipeline.pin (pcfgs (F := F)) adm p).N → ((Pipeline.pin (pcfgs (F := F)) adm p).win w).block.Idx →
    Elt F ((Pipeline.pin (pcfgs (F := F)) adm p).win w).elt
  | ⟨0, _⟩ => after0 W
  | ⟨1, _⟩ => after2 W
  | ⟨2, _⟩ => after4 W

/-- All three, from the contents `W` before call `n`. -/
def pdats (p : Fin 3) (d : Dev nD) : Dat τ (Elt F) (HIx 2) ℕ UU ℕ (Pipeline.pin (pcfgs (F := F)) adm p) d :=
  datOf W n p d (afters W p d)

abbrev dat0 (d : Dev nD) : Dat τ (Elt F) (HIx 2) ℕ UU ℕ cfg0 d := pdats W n 0 d
abbrev dat2 (d : Dev nD) : Dat τ (Elt F) (HIx 2) ℕ UU ℕ cfg2 d := pdats W n 1 d
abbrev dat4 (d : Dev nD) : Dat τ (Elt F) (HIx 2) ℕ UU ℕ cfg4 d := pdats W n 2 d

/-! ## The bodies -/

theorem body_obligation0 (d : Dev nD) : BodyObligation (dat0 W n d) (defs₀ (F := F)) 𝒱₀ none Set.univ := fun t => by
  rw [bigSep_W0, bigSep_W0]
  have e0 : ∀ x, (dat0 W n d).before 0 t x = staged d (cfg := cfg0) 0 t (W d main_arg0) := fun x =>
    ((dat0 W n d).before_fetched 0 t (fetch0_0 t) x).trans rfl
  have e1 : ∀ x, (dat0 W n d).before 1 t x = staged d (cfg := cfg0) 1 t (W d main_arg1) := fun x =>
    ((dat0 W n d).before_fetched 1 t (fetch0_1 t) x).trans rfl
  rw [show (dat0 W n d).Φ t.succ = (dat0 W n d).Φ t.castSucc from rfl,
    show (dat0 W n d).owesAt none t.succ = (dat0 W n d).owesAt none t.castSucc from rfl]
  iintro ⟨HΦ, Howes, ⟨%x0, H0⟩, ⟨%x1, H1⟩, ⟨%x2, H2⟩⟩
  rw [e0, e1]
  iapply (Label.wp_body0 d (grid0.coords t) _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem body_obligation2 (d : Dev nD) : BodyObligation (dat2 W n d) (defs₀ (F := F)) 𝒱₀ none Set.univ := fun t => by
  rw [bigSep_W2, bigSep_W2]
  have e0 : ∀ x, (dat2 W n d).before 0 t x = staged d (cfg := cfg2) 0 t (W d main_arg0) := fun x =>
    ((dat2 W n d).before_fetched 0 t (fetch2_0 t) x).trans rfl
  have e1 : ∀ x, (dat2 W n d).before 1 t x = staged d (cfg := cfg2) 1 t (W d main_arg1) := fun x =>
    ((dat2 W n d).before_fetched 1 t (fetch2_1 t) x).trans rfl
  rw [show (dat2 W n d).Φ t.succ = (dat2 W n d).Φ t.castSucc from rfl,
    show (dat2 W n d).owesAt none t.succ = (dat2 W n d).owesAt none t.castSucc from rfl]
  iintro ⟨HΦ, Howes, ⟨%x0, H0⟩, ⟨%x1, H1⟩, ⟨%x2, H2⟩⟩
  rw [e0, e1]
  iapply (Label.wp_body2 d (grid2.coords t) _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem body_obligation4 (d : Dev nD) : BodyObligation (dat4 W n d) (defs₀ (F := F)) 𝒱₀ none Set.univ := fun t => by
  rw [bigSep_W4, bigSep_W4]
  have e0 : ∀ x, (dat4 W n d).before 0 t x = staged d (cfg := cfg4) 0 t (W d main_v1) := fun x =>
    ((dat4 W n d).before_fetched 0 t (fetch4_0 t) x).trans rfl
  have e1 : ∀ x, (dat4 W n d).before 1 t x = staged d (cfg := cfg4) 1 t (W d main_v3) := fun x =>
    ((dat4 W n d).before_fetched 1 t (fetch4_1 t) x).trans rfl
  rw [show (dat4 W n d).Φ t.succ = (dat4 W n d).Φ t.castSucc from rfl,
    show (dat4 W n d).owesAt none t.succ = (dat4 W n d).owesAt none t.castSucc from rfl]
  iintro ⟨HΦ, Howes, ⟨%x0, H0⟩, ⟨%x1, H1⟩, ⟨%x2, H2⟩⟩
  rw [e0, e1]
  iapply (Dice.wp_body4 d _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The steps -/

/-- What the main thread owes the calls from `n` on, having waited on nothing above the calls before. -/
def owing (d : Dev nD) : sProp (MM F) :=
  iprop(∃ X, ⌜(K (F := F)).WBelow (T d) X (8 * n)⌝ ∗ owes (T d) ((K (F := F)).Otc d n) X)

theorem Otc_none (d : Dev nD) (g : GSem nD τ sig) : (K (F := F)).Otc d n g none = 0 := by
  by_contra h
  have := SparseCore.Cfg.lev_of_Otc_pos (K := K (F := F)) (Nat.pos_of_ne_zero h)
  rw [show (K (F := F)).lev g none = 0 from rfl] at this
  omega

variable (W' : Contents F)

set_option backward.isDefEq.respectTransparency.types false in
/-- A kernel of the TensorCore, entered with the shared arrays at `W` before call `n`, and left with them at `W'`, which has
    the kernel's own arrays as its points leave them and the others as they were. -/
def region (p : Fin 3) (hl : Pipeline.LaunchFacts (nD := nD) (τ := τ) cfgs p)
    (hbody : ∀ d, BodyObligation (pdats W n p d) (defs₀ (F := F)) 𝒱₀ none Set.univ)
    (hF : ∀ d w, (pdats W n p d).arrAt w (Pipeline.pin (pcfgs (F := F)) adm p).N
      = W' d (Pipeline.arrRef (Pipeline.pin (pcfgs (F := F)) adm p).spec w))
    (hrest : ∀ d b, b ∉ Finset.univ.image (Pipeline.arrRef (Pipeline.pin (pcfgs (F := F)) adm p).spec) → W' d b = W d b) :
    Pipeline.RegionSeg (pcfgs (F := F)) adm (pdats W n) none defs₀ 𝒱₀ (K (F := F)).L (K (F := F)).lev p where
  win := hl.win.to₀
  block_pos := hl.block_pos
  stage_whole := hl.stage_whole
  K := PEmpty
  osem k := k.elim
  ho := Pipeline.OwnSemFacts.none _
  hbody d := (hbody d).loose
  hwaits d := Pipeline.cellsWaits_intro _ (pdats W n) none p d fun w s t => by
    exact (K (F := F)).mayWait_none _ (Otc_none n d)
  pre d := iprop(unscopedBufs d (W d) ∗ owing n d)
  post d := iprop(unscopedBufs d (W' d) ∗ owing n d)
  X _ := BI.emp
  Y _ := BI.emp
  Z d := Pipeline.unscopedRest (Ix := HIx 2) (Name := ℕ) (U := UU) (Lvl := ℕ) (Pipeline.pin (pcfgs (F := F)) adm p).spec d (W d)
  hentry d := by
    rw [Pipeline.ownSems0_none]
    have hsplit := Pipeline.arrays_of_unscopedBufs (p := p) (pcfgs (F := F)) adm (pdats W n) hl.win hl.arr_whole d
      ((pdats W n p d).share_full fun _ => rfl) (W d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owing Pipeline.Dat.owesAt Pipeline.owesWithin Pipeline.Dat.bound
      rw [show (pdats W n p d).owed _ = (K (F := F)).Otc d n from rfl, show (pdats W n p d).recorded _ = Waited (F := F) d n from rfl]
      icases HO with ⟨%X, %hX, HO⟩; iexists X; isplitr; · ipureintro; exact fun x hx => Or.inl (hX x hx)
      iexact HO
    isplitr; · iempintro
    iexact Hrest
  hin d := by
    rw [show (pdats W n p d).Φ 0 = Pipeline.scopedRest (Pipeline.pin (pcfgs (F := F)) adm p).spec d from rfl]
    iintro ⟨-, -, Hr⟩; iexact Hr
  hout d := by
    rw [Pipeline.ownSems0_none,
      show (pdats W n p d).Φ (Fin.last _) = Pipeline.scopedRest (Pipeline.pin (pcfgs (F := F)) adm p).spec d from rfl]
    iintro Hr
    isplitr; · iempintro
    isplitr; · iempintro
    iexact Hr
  hexit d := by
    have hjoin := Pipeline.unscopedBufs_of_arrays (p := p) (pcfgs (F := F)) adm (Ix := HIx 2) (Name := ℕ) (U := UU) (Lvl := ℕ) hl.win hl.arr_whole d
      (pdats W n) ((pdats W n p d).share_full fun _ => rfl) (W d) (W' d)
      ((pdats W n p d).arrAt · (Pipeline.pin (pcfgs (F := F)) adm p).N) (hF d) (hrest d)
    iintro ⟨Ha, HO, -, Hrest⟩
    imodintro
    isplitl [Ha Hrest]
    · iapply hjoin; isplitl [Ha] <;> iassumption
    unfold owing Pipeline.Dat.owesAt Pipeline.owesWithin Pipeline.Dat.bound
    rw [show (pdats W n p d).owed _ = (K (F := F)).Otc d n from rfl, show (pdats W n p d).recorded _ = Waited (F := F) d n from rfl]
    icases HO with ⟨%X, %hX, HO⟩; iexists X; isplitr
    · ipureintro
      intro x hx
      rcases hX hx with h | ⟨w, s, h⟩
      · exact h
      · subst h; exact Nat.zero_le _
    iexact HO

end Cert.KernelIdeal.Launch
-- ==== Proof.Arrays.lean ====
/- The arrays the three TensorCore kernels leave: the pixels' codes, and the scores of the two histograms. -/
module

public import proofs.«01_k».proof.Proof.Regions
public import Idealize.ShloMosaic.Lib.Pipeline.ValueKit

@[expose] public section

noncomputable section

namespace Cert.KernelIdeal.Launch

open Cert.KernelIdeal.Gen
open Idealize.ShloMosaic Idealize.ShloMosaic.TcCoe
open Idealize.ShloMosaic.Pipeline (Dat Cfg Window)

variable {F : FTy → Type} [FloatOps F] (W : Contents F) (n : ℕ) (d : Dev nD)

/-! ## Which block each point works on -/

theorem index0_0 : ∀ t : Fin cfg0.N, win0_0.index t = ![t.val / 2, 0, t.val % 2, 0] :=
  (by decide +kernel : ∀ t : Fin grid0.N, _)
theorem index0_1 : ∀ t : Fin cfg0.N, win0_1.index t = ![t.val / 2, t.val % 2, 0] :=
  (by decide +kernel : ∀ t : Fin grid0.N, _)
theorem index0_2 : ∀ t : Fin cfg0.N, win0_2.index t = ![t.val, 0] :=
  (by decide +kernel : ∀ t : Fin grid0.N, _)
theorem index2_0 : ∀ t : Fin cfg2.N, win2_0.index t = ![6 + t.val / 2, 0, t.val % 2, 0] :=
  (by decide +kernel : ∀ t : Fin grid2.N, _)
theorem index2_1 : ∀ t : Fin cfg2.N, win2_1.index t = ![6 + t.val / 2, t.val % 2, 0] :=
  (by decide +kernel : ∀ t : Fin grid2.N, _)
theorem index2_2 : ∀ t : Fin cfg2.N, win2_2.index t = ![t.val, 0] :=
  (by decide +kernel : ∀ t : Fin grid2.N, _)

/-! ## What the arrays hold -/

/-- The first labelling kernel writes the codes of the first six images. -/
theorem arr0 : (dat0 W n d).arrAt 2 cfg0.N = Label.comb1 (W d main_arg0) (W d main_arg1) := by
  refine (dat0 W n d).arrAt_eq_of_covers 2 _ (by decide +kernel) fun t _ y => ?_
  have ht : t.val < 12 := by have := t.isLt; exact this.trans_eq N_0
  have g := Label.blockCode_eq (A := W d main_arg0) (B := W d main_arg1) (b := t.val / 2) (h := t.val % 2) (by omega) (by omega)
    (e4 := fun x => ((cfg0.win 0).blk t).view.emb x) (e3 := fun x => ((cfg0.win 1).blk t).view.emb x)
    (fun x => by have := (x 0).isLt; blk_simp [index0_0] <;> omega) (fun x => by blk_simp [index0_0] <;> omega)  (fun x => by blk_simp [index0_0] <;> omega)
    (fun x => by blk_simp [index0_0] <;> omega)
    (fun x => by have := (x 0).isLt; blk_simp [index0_1] <;> omega) (fun x => by blk_simp [index0_1] <;> omega) (fun x => by blk_simp [index0_1] <;> omega)
    y _ rfl
  have e : Label.comb1 (W d main_arg0) (W d main_arg1) (((cfg0.win 2).blk t).view.emb y)
      = Label.codeAt (W d main_arg0) (W d main_arg1) (262144 * (t.val / 2) + 131072 * (t.val % 2) + (128 * (y 0).val + (y 1).val)) := by
    unfold Label.comb1
    congr 1
    blk_simp [index0_2]
    omega
  exact g.trans e.symm

/-- The second writes those of the last two. -/
theorem arr2 : (dat2 W n d).arrAt 2 cfg2.N = Label.comb2 (W d main_arg0) (W d main_arg1) := by
  refine (dat2 W n d).arrAt_eq_of_covers 2 _ (by decide +kernel) fun t _ y => ?_
  have ht : t.val < 4 := by have := t.isLt; exact this.trans_eq N_2
  have g := Label.blockCode_eq (A := W d main_arg0) (B := W d main_arg1) (b := 6 + t.val / 2) (h := t.val % 2) (by omega) (by omega)
    (e4 := fun x => ((cfg2.win 0).blk t).view.emb x) (e3 := fun x => ((cfg2.win 1).blk t).view.emb x)
    (fun x => by have := (x 0).isLt; blk_simp [index2_0] <;> omega) (fun x => by blk_simp [index2_0] <;> omega)  (fun x => by blk_simp [index2_0] <;> omega)
    (fun x => by blk_simp [index2_0] <;> omega)
    (fun x => by have := (x 0).isLt; blk_simp [index2_1] <;> omega) (fun x => by blk_simp [index2_1] <;> omega) (fun x => by blk_simp [index2_1] <;> omega)
    y _ rfl
  have e : Label.comb2 (W d main_arg0) (W d main_arg1) (((cfg2.win 2).blk t).view.emb y)
      = Label.codeAt (W d main_arg0) (W d main_arg1) (262144 * (6 + t.val / 2) + 131072 * (t.val % 2) + (128 * (y 0).val + (y 1).val)) := by
    unfold Label.comb2
    congr 1
    blk_simp [index2_2]
    omega
  exact g.trans e.symm

/-- The last kernel writes the scores. -/
theorem arr4 : (dat4 W n d).arrAt 2 cfg4.N = Dice.dice (W d main_v1) (W d main_v3) := by
  refine (dat4 W n d).arrAt_eq_of_covers 2 _ (by decide +kernel) fun t _ y => ?_
  have e0 : staged d (cfg := cfg4) 0 t (W d main_v1) = W d main_v1 := funext fun x =>
    congrArg (W d main_v1) (funext fun a => Fin.ext (win4_0.rect_emb_val_of_index_zero t a rfl x))
  have e1 : staged d (cfg := cfg4) 1 t (W d main_v3) = W d main_v3 := funext fun x =>
    congrArg (W d main_v3) (funext fun a => Fin.ext (win4_1.rect_emb_val_of_index_zero t a rfl x))
  have e2 : ((cfg4.win 2).blk t).view.emb y = y := funext fun a => Fin.ext (win4_2.rect_emb_val_of_index_zero t a rfl y)
  show Dice.dice (staged d (cfg := cfg4) 0 t (W d main_v1)) (staged d (cfg := cfg4) 1 t (W d main_v3)) y = _
  rw [e0, e1, e2]

/-! ## The steps -/

variable (W' : Contents F)

/-- The contents with one array of the core replaced. -/
def put (b : Ref sig .tc) (x : (d : Dev nD) → Buf (Elt F) ((d : Thread nD τ).loc b)) : Contents F :=
  fun d => Function.update (W d) b (x d)

theorem put_self (b : Ref sig .tc) (x) (d : Dev nD) : put W b x d b = x d := Function.update_self _ _ _
theorem put_ne {b b' : Ref sig .tc} (h : b' ≠ b) (x) (d : Dev nD) : put W b x d b' = W d b' := Function.update_of_ne h _ _

/-- The first labelling kernel's step. -/
def step0 := region W n (put W main_v0 fun d => Label.comb1 (W d main_arg0) (W d main_arg1)) 0 launch0 (body_obligation0 W n)
  (fun d w => match w with
    | ⟨0, _⟩ => ((dat0 W n d).arrAt_in 0 rfl _).trans (put_ne W (show (main_arg0 : Ref sig .tc) ≠ main_v0 by decide) _ d).symm
    | ⟨1, _⟩ => ((dat0 W n d).arrAt_in 1 rfl _).trans (put_ne W (show (main_arg1 : Ref sig .tc) ≠ main_v0 by decide) _ d).symm
    | ⟨2, _⟩ => (arr0 W n d).trans (put_self W main_v0 (fun d => Label.comb1 (W d main_arg0) (W d main_arg1)) d).symm)
  (fun d b hb => put_ne W (fun e => hb (Finset.mem_image.mpr ⟨(2 : Fin 3), Finset.mem_univ _, e.symm⟩)) _ d)

/-- The second's. -/
def step2 := region W n (put W main_v2 fun d => Label.comb2 (W d main_arg0) (W d main_arg1)) 1 launch2 (body_obligation2 W n)
  (fun d w => match w with
    | ⟨0, _⟩ => ((dat2 W n d).arrAt_in 0 rfl _).trans (put_ne W (show (main_arg0 : Ref sig .tc) ≠ main_v2 by decide) _ d).symm
    | ⟨1, _⟩ => ((dat2 W n d).arrAt_in 1 rfl _).trans (put_ne W (show (main_arg1 : Ref sig .tc) ≠ main_v2 by decide) _ d).symm
    | ⟨2, _⟩ => (arr2 W n d).trans (put_self W main_v2 (fun d => Label.comb2 (W d main_arg0) (W d main_arg1)) d).symm)
  (fun d b hb => put_ne W (fun e => hb (Finset.mem_image.mpr ⟨(2 : Fin 3), Finset.mem_univ _, e.symm⟩)) _ d)

/-- The last kernel's. -/
def step4 := region W n (put W main_v4 fun d => Dice.dice (W d main_v1) (W d main_v3)) 2 launch4 (body_obligation4 W n)
  (fun d w => match w with
    | ⟨0, _⟩ => ((dat4 W n d).arrAt_in 0 rfl _).trans (put_ne W (show (main_v1 : Ref sig .tc) ≠ main_v4 by decide) _ d).symm
    | ⟨1, _⟩ => ((dat4 W n d).arrAt_in 1 rfl _).trans (put_ne W (show (main_v3 : Ref sig .tc) ≠ main_v4 by decide) _ d).symm
    | ⟨2, _⟩ => (arr4 W n d).trans (put_self W main_v4 (fun d => Dice.dice (W d main_v1) (W d main_v3)) d).symm)
  (fun d b hb => put_ne W (fun e => hb (Finset.mem_image.mpr ⟨(2 : Fin 3), Finset.mem_univ _, e.symm⟩)) _ d)

end Cert.KernelIdeal.Launch
-- ==== Proof.Whole.lean ====
/- The whole program's run: its result is the scores of the two histograms of the pixels' codes, its arguments are as they
   were, and every semaphore is at zero. -/
module

public import proofs.«01_k».proof.Proof.Deal
public import proofs.«01_k».proof.Proof.Arrays

@[expose] public section

noncomputable section

namespace Cert.KernelIdeal.Launch

open Cert.KernelIdeal.Gen
open Idealize.ShloMosaic Idealize.ShloMosaic.TcCoe
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

/-! ## The steps of the main thread -/

/-- The ghost state of the pipelines on one device. -/
def ghost (p : Fin 3) (d : Dev nD) : sProp (MM F) :=
  iprop(Pipeline.cellsGhost (Pipeline.pin (pcfgs (F := F)) adm) EP p d ∗ Pipeline.toksInit (Pipeline.pin (pcfgs (F := F)) adm) EP p d)

/-- A kernel of the TensorCore, run inside the main thread. -/
theorem wp_region [∀ e, Nonempty (Elt F e)] (W : Contents F) (n : ℕ) (p : Fin 3)
    (R : Pipeline.RegionSeg (pcfgs (F := F)) adm (pdats W n) none defs₀ 𝒱₀ (K (F := F)).L (K (F := F)).lev p) (d : Dev nD)
    (W' : Contents F) (hpre : R.pre d = iprop(unscopedBufs d (W d) ∗ owing n d)) (hpost : R.post d = iprop(unscopedBufs d (W' d) ∗ owing n d))
    (Q : PUnit → sProp (MM F)) :
    iprop(boundary (T d) ∗ (unscopedBufs d (W d) ∗ owing n d) ∗ levAts (K (F := F)).L (K (F := F)).lev ∗ ghost p d
        ∗ (iprop(boundary (T d) ∗ unscopedBufs d (W' d) ∗ owing n d) -∗ Q ⟨⟩) : sProp (MM F))
      ⊢ wp frame (wpE ((K (F := F)).defs (D (F := F))) 𝒱 (T d) none) Set.univ
          (Prog.lift (.customCall (SparseCore.inner (Pipeline.entry p)) ())) Q := by
  have h := Pipeline.RegionSeg.wp (pcfgs (F := F)) adm (pdats W n) none cellOf_inj EP defs₀ 𝒱₀ (K (F := F)).L (K (F := F)).lev R d
    none (fun _ hu => nomatch hu) (fun _ => .ret PUnit.unit) Q
  have l := (K (F := F)).wp_liftProg (D (F := F)) 𝒱 (T d) Set.univ none (.op (.customCall (Pipeline.entry p) ()) fun _ => .ret PUnit.unit) Q
  refine BIBase.Entails.trans ?_ (h.trans l)
  rw [hpre, hpost]
  unfold ghost
  iintro ⟨Hb, Hp, Hl, ⟨Hg, Ht⟩, Hk⟩
  isplitl [Hk]
  · iintro H
    rw [wp_ret]; imodintro
    iapply Hk; iexact H
  isplitl [Hb]; · iexact Hb
  isplitl [Hp]; · iexact Hp
  isplitl [Hl]; · iexact Hl
  isplitl [Hg]; · iexact Hg
  iexact Ht

/-- What the thread owes is one part of what it holds between calls. -/
theorem tcSt_owing (n : ℕ) (d : Dev nD) : ∃ R : sProp (MM F), (K (F := F)).tcSt EH d n = iprop(owing n d ∗ R) := ⟨_, rfl⟩

theorem shared_eq (d : Dev nD) (W : (b : Ref sig .tc) → Buf (Elt F) ((d.tc : Thread nD τ).loc b)) :
    (unscopedBufs d W : sProp (MM F)) = iprop((((T d : Thread nD τ).loc main_arg0) ↦{fullShare} W main_arg0)
      ∗ (((T d : Thread nD τ).loc main_arg1) ↦{fullShare} W main_arg1) ∗ (((T d : Thread nD τ).loc main_v0) ↦{fullShare} W main_v0)
      ∗ (((T d : Thread nD τ).loc main_v1) ↦{fullShare} W main_v1) ∗ (((T d : Thread nD τ).loc main_v2) ↦{fullShare} W main_v2)
      ∗ (((T d : Thread nD τ).loc main_v3) ↦{fullShare} W main_v3) ∗ (((T d : Thread nD τ).loc main_v4) ↦{fullShare} W main_v4)
      ∗ (((T d : Thread nD τ).loc main_v5) ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The contents, step by step -/

def W0 : Contents F := fun d b => m ((d : Thread nD τ).loc b)
def W1 : Contents F := put (W0 m) main_v0 fun d => Label.comb1 (W0 m d main_arg0) (W0 m d main_arg1)
def W2 : Contents F := put (W1 m) main_v1 fun d => hist1 m d
def W3 : Contents F := put (W2 m) main_v2 fun d => Label.comb2 (W2 m d main_arg0) (W2 m d main_arg1)
def W4 : Contents F := put (W3 m) main_v3 fun d => hist2 m d
def W5 : Contents F := put (W4 m) main_v4 fun d => Dice.dice (W4 m d main_v1) (W4 m d main_v3)

/-- A buffer no step writes. -/
theorem put_ne' {W : Contents F} {b b' : Ref sig .tc} {x} {d : Dev nD} (h : b' ≠ b) : put W b x d b' = W d b' := put_ne W h x d

theorem call1_in (d : Dev nD) : (unscopedBufs d (W1 m d) : sProp (MM F))
    ⊢ iprop(lent m 0 d (old m 0 d) ∗ (lent m 0 d (new m 0 d) -∗ unscopedBufs d (W2 m d))) := by
  rw [shared_eq, shared_eq]
  unfold W2
  rw [put_self, put_ne' (by decide : main_arg0 ≠ main_v1), put_ne' (by decide : main_arg1 ≠ main_v1), put_ne' (by decide : main_v0 ≠ main_v1), put_ne' (by decide : main_v2 ≠ main_v1),
    put_ne' (by decide : main_v3 ≠ main_v1), put_ne' (by decide : main_v4 ≠ main_v1), put_ne' (by decide : main_v5 ≠ main_v1)]
  have e0 : W1 m d main_v0 = Label.comb1 (argA m d) (argB m d) := put_self (W0 m) main_v0 (fun d => Label.comb1 (W0 m d main_arg0) (W0 m d main_arg1)) d
  have e1 : W1 m d main_v1 = m ((T d : Thread nD τ).loc main_v1) := put_ne' (by decide : main_v1 ≠ main_v0)
  rw [e0, e1]
  unfold lent
  rw [show old m 0 d = m ((T d : Thread nD τ).loc main_v1) from rfl, show new m 0 d = hist1 m d from rfl]
  iintro ⟨Ha, Hb, H0, H1, H⟩
  isplitl [H0 H1]
  · isplitl [H0] <;> iassumption
  iintro ⟨H0, H1⟩
  isplitl [Ha]; · iexact Ha
  isplitl [Hb]; · iexact Hb
  isplitl [H0]; · iexact H0
  isplitl [H1]; · iexact H1
  iexact H

theorem call2_in (d : Dev nD) : (unscopedBufs d (W3 m d) : sProp (MM F))
    ⊢ iprop(lent m 1 d (old m 1 d) ∗ (lent m 1 d (new m 1 d) -∗ unscopedBufs d (W4 m d))) := by
  rw [shared_eq, shared_eq]
  unfold W4
  rw [put_self, put_ne' (by decide : main_arg0 ≠ main_v3), put_ne' (by decide : main_arg1 ≠ main_v3), put_ne' (by decide : main_v0 ≠ main_v3), put_ne' (by decide : main_v1 ≠ main_v3),
    put_ne' (by decide : main_v2 ≠ main_v3), put_ne' (by decide : main_v4 ≠ main_v3), put_ne' (by decide : main_v5 ≠ main_v3)]
  have ea : W2 m d main_arg0 = argA m d := (put_ne' (by decide : main_arg0 ≠ main_v1)).trans (put_ne' (by decide : main_arg0 ≠ main_v0))
  have eb : W2 m d main_arg1 = argB m d := (put_ne' (by decide : main_arg1 ≠ main_v1)).trans (put_ne' (by decide : main_arg1 ≠ main_v0))
  have e2 : W3 m d main_v2 = Label.comb2 (argA m d) (argB m d) :=
    (put_self (W2 m) main_v2 (fun d => Label.comb2 (W2 m d main_arg0) (W2 m d main_arg1)) d).trans (by rw [ea, eb])
  have e3 : W3 m d main_v3 = m ((T d : Thread nD τ).loc main_v3) :=
    (put_ne' (by decide : main_v3 ≠ main_v2)).trans ((put_ne' (by decide : main_v3 ≠ main_v1)).trans (put_ne' (by decide : main_v3 ≠ main_v0)))
  rw [e2, e3]
  unfold lent
  rw [show old m 1 d = m ((T d : Thread nD τ).loc main_v3) from rfl, show new m 1 d = hist2 m d from rfl]
  iintro ⟨Ha, Hb, H0, H1, H2, H3, H⟩
  isplitl [H2 H3]
  · isplitl [H2] <;> iassumption
  iintro ⟨H2, H3⟩
  isplitl [Ha]; · iexact Ha
  isplitl [Hb]; · iexact Hb
  isplitl [H0]; · iexact H0
  isplitl [H1]; · iexact H1
  isplitl [H2]; · iexact H2
  isplitl [H3]; · iexact H3
  iexact H

/-- The program's result. -/
def result (d : Dev nD) : S19.Idx → F .f32 := shapeCast S19 (Dice.dice (hist1 m d) (hist2 m d)) shapeCasts_S19x1_S19

/-- What the main thread ends with: the arguments as they were, and the result. -/
def FIN (d : Dev nD) : sProp (MM F) :=
  iprop((((T d : Thread nD τ).loc main_arg0) ↦{fullShare} argA m d) ∗ (((T d : Thread nD τ).loc main_arg1) ↦{fullShare} argB m d)
    ∗ (((T d : Thread nD τ).loc main_v5) ↦{fullShare} result m d))

abbrev v4' : DevRef τ sig := Proc.devRef .tc (main_v4 : Ref sig .tc)
abbrev v5' : DevRef τ sig := Proc.devRef .tc (main_v5 : Ref sig .tc)
abbrev opReshape : HloOp τ sig (Elt F) := StableHlo.reshape main_v4 main_v5 (rfl : (.f32 : EltTy) = .f32) shapeCasts_S19x1_S19
/-- The last operation's surroundings: the scores where it reads them. -/
def V4 (d : Dev nD) : Valuation τ sig (Elt F) := Function.update (fun b => m (d, b)) v4' (Dice.dice (hist1 m d) (hist2 m d))

theorem held_two (d : Dev nD) (V : Valuation τ sig (Elt F)) :
    (held (T d) {v4', v5'} V : sProp (MM F)) = iprop((((T d : Thread nD τ).loc main_v4) ↦{fullShare} V v4') ∗ (((T d : Thread nD τ).loc main_v5) ↦{fullShare} V v5')) := by
  unfold held
  rw [SparseCore.bigSep_insert' (by decide), bigSep_singleton]

theorem end_in (d : Dev nD) : (unscopedBufs d (W5 m d) : sProp (MM F))
    ⊢ iprop(held (T d) {v4', v5'} (V4 m d) ∗ (held (T d) {v4', v5'} ((opReshape (F := F)).result (V4 m d)) -∗ FIN m d)) := by
  rw [shared_eq, held_two, held_two]
  have ea : W5 m d main_arg0 = argA m d := (put_ne' (by decide : main_arg0 ≠ main_v4)).trans ((put_ne' (by decide : main_arg0 ≠ main_v3)).trans
    ((put_ne' (by decide : main_arg0 ≠ main_v2)).trans ((put_ne' (by decide : main_arg0 ≠ main_v1)).trans (put_ne' (by decide : main_arg0 ≠ main_v0)))))
  have eb : W5 m d main_arg1 = argB m d := (put_ne' (by decide : main_arg1 ≠ main_v4)).trans ((put_ne' (by decide : main_arg1 ≠ main_v3)).trans
    ((put_ne' (by decide : main_arg1 ≠ main_v2)).trans ((put_ne' (by decide : main_arg1 ≠ main_v1)).trans (put_ne' (by decide : main_arg1 ≠ main_v0)))))
  have e1 : W4 m d main_v1 = hist1 m d := (put_ne' (by decide : main_v1 ≠ main_v3)).trans ((put_ne' (by decide : main_v1 ≠ main_v2)).trans (put_self (W1 m) main_v1 (fun d => hist1 m d) d))
  have e3 : W4 m d main_v3 = hist2 m d := put_self (W3 m) main_v3 (fun d => hist2 m d) d
  have e4 : W5 m d main_v4 = Dice.dice (hist1 m d) (hist2 m d) :=
    (put_self (W4 m) main_v4 (fun d => Dice.dice (W4 m d main_v1) (W4 m d main_v3)) d).trans (by rw [e1, e3])
  have e5 : W5 m d main_v5 = m ((T d : Thread nD τ).loc main_v5) := (put_ne' (by decide : main_v5 ≠ main_v4)).trans ((put_ne' (by decide : main_v5 ≠ main_v3)).trans
    ((put_ne' (by decide : main_v5 ≠ main_v2)).trans ((put_ne' (by decide : main_v5 ≠ main_v1)).trans (put_ne' (by decide : main_v5 ≠ main_v0)))))
  have f4 : V4 m d v4' = Dice.dice (hist1 m d) (hist2 m d) := Function.update_self _ _ _
  have f5 : V4 m d v5' = m ((T d : Thread nD τ).loc main_v5) := Function.update_of_ne (show v5' ≠ v4' by decide) _ _
  have g5 : (opReshape (F := F)).result (V4 m d) v5' = result m d := by
    refine (StableHlo.reshape_result main_v4 main_v5 _ _ _ _ (V4 m d)).trans ?_
    rw [f4]; rfl
  rw [ea, eb, e4, e5, f4, f5, g5]
  unfold FIN
  iintro ⟨Ha, Hb, -, -, -, -, H4, H5⟩
  isplitl [H4 H5]
  · isplitl [H4] <;> iassumption
  iintro ⟨-, H5⟩
  isplitl [Ha]; · iexact Ha
  isplitl [Hb]; · iexact Hb
  iexact H5

/-! ## The main thread -/

/-- From the arguments, through the three kernels and the two calls between them, to the result. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ (ghost 0 d ∗ ghost 1 d ∗ ghost 2 d))
      ⊢ wp frame (wpE ((K (F := F)).defs (D (F := F))) 𝒱 (T d) none) Set.univ (main d)
          fun _ => iprop((K (F := F)).tcSt EH d 2 ∗ FIN m d ∗ (K (F := F)).tcEnd d) := by
  obtain ⟨R0, h0⟩ := tcSt_owing (F := F) 0 d
  obtain ⟨R1, h1⟩ := tcSt_owing (F := F) 1 d
  obtain ⟨R2, h2⟩ := tcSt_owing (F := F) 2 d
  unfold SparseCore.Cfg.tcRes SparseCore.Cfg.tcEnd
  rw [show (fun b : Ref sig .tc => m ((T d : Thread nD τ).loc b)) = W0 m d from rfl]
  simp only [main, wp_bind, wp_pure]
  iintro ⟨#Hctx, Hst, ⟨Hb, Hu, Hts, -⟩, Hg0, Hg1, Hg2⟩
  ihave Hlev := ((K (F := F)).ctx_levAts κ) $$ Hctx
  ihave Hst' := (Entails.of_eq h0) $$ Hst
  icases Hst' with ⟨HO, HR⟩
  iapply (wp_region (W0 m) 0 0 (step0 (W0 m) 0) d (W1 m) rfl rfl _)
  isplitl [Hb]; · iexact Hb
  isplitl [Hu HO]
  · isplitl [Hu] <;> iassumption
  isplitr; · iexact Hlev
  isplitl [Hg0]; · iexact Hg0
  iintro ⟨Hb, Hu, HO⟩
  -- the first histogram
  ihave H := (call1_in m d) $$ Hu
  icases H with ⟨Hl, Hback⟩
  iapply ((K (F := F)).wp_run (D (F := F)) 𝒱 (EH := EH) (P := P m) κ d 0)
  isplitr; · iexact Hctx
  isplitl [HO HR]
  · iapply (Entails.of_eq h0.symm); isplitl [HO] <;> iassumption
  isplitl [Hl]; · iapply (Entails.of_eq (st_eq m 0 d).symm); iexact Hl
  iintro ⟨Hst, Hdn⟩
  ihave Hl := (Entails.of_eq (dn_eq m 0 d)) $$ Hdn
  ihave Hu := Hback $$ Hl
  ihave Hst' := (Entails.of_eq (show (K (F := F)).tcSt EH d ((0 : Fin 2).val + 1) = _ from h1)) $$ Hst
  icases Hst' with ⟨HO, HR⟩
  -- the second labelling
  iapply (wp_region (W2 m) 1 1 (step2 (W2 m) 1) d (W3 m) rfl rfl _)
  isplitl [Hb]; · iexact Hb
  isplitl [Hu HO]
  · isplitl [Hu] <;> iassumption
  isplitr; · iexact Hlev
  isplitl [Hg1]; · iexact Hg1
  iintro ⟨Hb, Hu, HO⟩
  -- the second histogram
  ihave H := (call2_in m d) $$ Hu
  icases H with ⟨Hl, Hback⟩
  iapply ((K (F := F)).wp_run (D (F := F)) 𝒱 (EH := EH) (P := P m) κ d 1)
  isplitr; · iexact Hctx
  isplitl [HO HR]
  · iapply (Entails.of_eq h1.symm); isplitl [HO] <;> iassumption
  isplitl [Hl]; · iapply (Entails.of_eq (st_eq m 1 d).symm); iexact Hl
  iintro ⟨Hst, Hdn⟩
  ihave Hl := (Entails.of_eq (dn_eq m 1 d)) $$ Hdn
  ihave Hu := Hback $$ Hl
  ihave Hst' := (Entails.of_eq (show (K (F := F)).tcSt EH d ((1 : Fin 2).val + 1) = _ from h2)) $$ Hst
  icases Hst' with ⟨HO, HR⟩
  -- the scores
  iapply (wp_region (W4 m) 2 2 (step4 (W4 m) 2) d (W5 m) rfl rfl _)
  isplitl [Hb]; · iexact Hb
  isplitl [Hu HO]
  · isplitl [Hu] <;> iassumption
  isplitr; · iexact Hlev
  isplitl [Hg2]; · iexact Hg2
  iintro ⟨Hb, Hu, HO⟩
  -- the last reshape
  ihave H := (end_in m d) $$ Hu
  icases H with ⟨Hh, Hback⟩
  iapply (wp_hlo_within 𝒱 (T d) none Set.univ (op := opReshape) (S := {v4', v5'}) (show ({v4', v5'} : Finset (DevRef τ sig)) ⊆ {v4', v5'} from Finset.Subset.refl _) (V := V4 m d)) $$ [Hb Hh]
  · isplitl [Hb] <;> iassumption
  iintro ⟨Hb, Hh⟩
  ihave HF := Hback $$ Hh
  rw [wp_ret]; imodintro; imodintro
  isplitl [HO HR]
  · iapply (Entails.of_eq h2.symm); isplitl [HO] <;> iassumption
  isplitl [HF]; · iexact HF
  isplitl [Hb] <;> iassumption

/-! ## The launch -/

/-- The ghost state the launch starts from. -/
def u₀ : UU := (initOf (K (F := F)).hsCells (K (F := F)).hsToks,
  (initOf (Pipeline.cells (nD := nD) (τ := τ) (Pipeline.pin (pcfgs (F := F)) adm) cellOf_inj) (Pipeline.launchToks (Pipeline.pin (pcfgs (F := F)) adm) cellOf_inj), 1))

theorem ownU_split (a : UH) (b : UP) (c : Counters) : (ownU ((a, (b, c)) : UU) : sProp (MM F)) ⊢ iprop(BI.own (EH a) ∗ BI.own (EP b)) := by
  have h : (ownU ((a, (b, c)) : UU) : sProp (MM F)) ⊢ iprop(BI.own (EH a) ∗ BI.own ((uEmb (nD := nD) (sig := sig) (Ix := HIx 2) (Val := Elt F) (Name := ℕ) (U := UU) (Lvl := ℕ)).toEmb (1, (b, c)))) :=
    BI.own_op_elim ((uEmb (nD := nD) (sig := sig) (Ix := HIx 2) (Val := Elt F) (Name := ℕ) (U := UU) (Lvl := ℕ)).toEmb.op_of_mem
      (Prod.mk_mem_op (URA.mem_op_one a) (URA.mem_one_op (b, c))))
  have h' : (BI.own ((uEmb (nD := nD) (sig := sig) (Ix := HIx 2) (Val := Elt F) (Name := ℕ) (U := UU) (Lvl := ℕ)).toEmb ((1, (b, c)) : UU)) : sProp (MM F))
      ⊢ iprop(BI.own (EP b) ∗ BI.own ((uEmb (nD := nD) (sig := sig) (Ix := HIx 2) (Val := Elt F) (Name := ℕ) (U := UU) (Lvl := ℕ)).toEmb ((1, (1, c)) : UU))) :=
    BI.own_op_elim ((uEmb (nD := nD) (sig := sig) (Ix := HIx 2) (Val := Elt F) (Name := ℕ) (U := UU) (Lvl := ℕ)).toEmb.op_of_mem
      (Prod.mk_mem_op (URA.mem_op_one (1 : UH)) (Prod.mk_mem_op (URA.mem_op_one b) (URA.mem_one_op c))))
  exact h.trans (sep_mono_right (h'.trans sep_elim_left))

theorem three (Φ : Fin 3 → sProp (MM F)) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem hu₀ : (ownU (u₀ (F := F)) : sProp (MM F))
    ⊢ |={Set.univ}=> iprop(BI.own (EH (initOf (K (F := F)).hsCells (K (F := F)).hsToks))
        ∗ (bigSep Finset.univ fun d : Dev nD => iprop(ghost (F := F) 0 d ∗ ghost 1 d ∗ ghost 2 d))
        ∗ bigSep Finset.univ fun thr : Thread nD τ => bigSep Finset.univ fun q : Fin 2 => (P m).x q thr) := by
  unfold u₀
  iintro Hu
  ihave H := (ownU_split _ _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · rw [show (fun d : Dev nD => iprop(ghost (F := F) 0 d ∗ ghost 1 d ∗ ghost 2 d)) = fun d => bigSep Finset.univ fun p : Fin 3 => ghost p d from funext fun d => (three (F := F) fun p => ghost p d).symm]
    unfold ghost
    rw [show (fun d : Dev nD => bigSep Finset.univ fun p : Fin 3 => iprop(Pipeline.cellsGhost (Pipeline.pin (pcfgs (F := F)) adm) EP p d ∗ Pipeline.toksInit (Pipeline.pin (pcfgs (F := F)) adm) EP p d))
      = fun d => iprop((bigSep Finset.univ fun p => Pipeline.cellsGhost (Pipeline.pin (pcfgs (F := F)) adm) EP p d) ∗ bigSep Finset.univ fun p => Pipeline.toksInit (Pipeline.pin (pcfgs (F := F)) adm) EP p d)
      from funext fun d => bigSep_sep' _ _ _, bigSep_sep']
    isplitl [Hg] <;> iassumption
  · rw [show (fun thr : Thread nD τ => bigSep Finset.univ fun q : Fin 2 => (P m).x q thr) = fun _ => iprop(emp) from funext fun thr => bigSep_emp_const _]
    iapply (Entails.of_eq (bigSep_emp_const (Finset.univ : Finset (Thread nD τ))).symm)
    iempintro

/-- What the memory is found to hold at the end. -/
def fq (d : Dev nD) (s' : Phys nD τ sig (Elt F)) : Prop :=
  s'.mem.mem ((T d : Thread nD τ).loc main_arg0) = argA m d ∧ s'.mem.mem ((T d : Thread nD τ).loc main_arg1) = argB m d
    ∧ s'.mem.mem ((T d : Thread nD τ).loc main_v5) = result m d

theorem hfin (d : Dev nD) (s' : Phys nD τ sig (Elt F)) : iprop(FIN m d ∗ SI s') ⊢ (⌜fq m d s'⌝ : sProp (MM F)) := by
  unfold FIN
  iintro ⟨⟨Ha, Hb, Hr⟩, HSI⟩
  ihave H := (persistent_entails_right (SI_pointsTo_agree (st := s') (ℓ := (T d : Thread nD τ).loc main_arg0) (I := Finset.univ) (q := fullShare) (f := argA m d))) $$ [HSI Ha]
  · isplitl [HSI] <;> iassumption
  icases H with ⟨%h1, HSI, -⟩
  ihave H := (persistent_entails_right (SI_pointsTo_agree (st := s') (ℓ := (T d : Thread nD τ).loc main_arg1) (I := Finset.univ) (q := fullShare) (f := argB m d))) $$ [HSI Hb]
  · isplitl [HSI] <;> iassumption
  icases H with ⟨%h2, HSI, -⟩
  ihave H := (SI_pointsTo_agree (st := s') (ℓ := (T d : Thread nD τ).loc main_v5) (I := Finset.univ) (q := fullShare) (f := result m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- The program's run from the memory `m`, at any float values: every result it can reach has the arguments unchanged, the
    scores of the codes' histograms in the result's array, and all semaphores at zero. -/
theorem run_main [∀ e, Nonempty (Elt F e)] :
    θ_run (Cert.KernelIdeal.defs (F := F)) (Cert.KernelIdeal.threads (F := F)) ⟨m, fun _ => 0, ρ⟩
      (fun r => (∀ d : Dev nD, r.2.mem ((T d : Thread nD τ).loc main_arg0) = argA m d ∧ r.2.mem ((T d : Thread nD τ).loc main_arg1) = argB m d
        ∧ r.2.mem ((T d : Thread nD τ).loc main_v5) = result m d) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl_0 m | 1 => tileObl_1 m)
    (fun q _ => SparseCore.Cfg.VecSplit.of_plain (vecSplit m q))
    m ρ main (fun d => iprop(ghost 0 d ∗ ghost 1 d ∗ ghost 2 d)) (FIN m) (u₀ (F := F)) (sep_elim_left.trans (hu₀ m)) (hmain m ρ) (fq m) (hfin m)
    _ (fun _ h hz => ⟨h, hz⟩)

end Cert.KernelIdeal.Launch
-- ==== Proof.RefLine.lean ====
/-
  The reference's straight line of array operations, in five stretches, and what each leaves in the arrays later
  stretches read.
-/
module

public import proofs.«01_k».proof.Proof.Gen.ReferenceIdeal
public import Idealize.ShloMosaic.Lib.StableHlo.Run
public import Idealize.ShloMosaic.Lib.StableHlo.RunRead

@[expose] public section

noncomputable section

namespace Cert.ReferenceIdeal.Line

open Cert.ReferenceIdeal Cert.ReferenceIdeal.Gen
open Idealize.ShloMosaic Idealize.ShloMosaic.TcCoe Idealize.ShloMosaic.StableHlo Idealize.SL.Sem

variable {F : FTy → Type} [FloatOps F]

/-! ## The operations -/

/-- The stretch that computes the code of each pixel: its class by its scores, paired with its target. -/
abbrev labelOps : List (HloOp τ sig (Elt F)) :=
  [ TRef.nullary main_call0.v0 (iotaInDim S8x19x512x512 32 1),
    TRef.nullary main_call0.cst (constant S_ .f32 0xFF800000#32),
    TRef.nullary main_call0.c (constantI S_ 32 0#32),
    TRef.quaternary (.of main_arg0) main_call0.v0 main_call0.cst main_call0.c main_call0.v1_0 (fun x y u v j => (Host.argReduce reducer_argmax_f32_i32 x y u v reducesTo_S8x19x512x512_S8x512x512_d1 h_S_ j).1),
    TRef.quaternary (.of main_arg0) main_call0.v0 main_call0.cst main_call0.c main_call0.v1_1 (fun x y u v j => (Host.argReduce reducer_argmax_f32_i32 x y u v reducesTo_S8x19x512x512_S8x512x512_d1 h_S_ j).2),
    reshape main_arg1 main_v1 rfl shapeCasts_S8x512x512_S2097152,
    reshape main_v0 main_v2 rfl shapeCasts_S8x512x512_S2097152,
    nullary main_c (constantI S_ 32 0#32),
    unary main_c main_v3 (broadcastInDim S2097152 ![] bcast_S_S2097152),
    binary main_v1 main_v3 main_v4 (cmpi .sge),
    nullary main_c_0 (constantI S_ 32 19#32),
    unary main_c_0 main_v5 (broadcastInDim S2097152 ![] bcast_S_S2097152),
    binary main_v1 main_v5 main_v6 (cmpi .slt),
    binary main_v4 main_v6 main_v7 andi,
    nullary main_c_1 (constantI S_ 32 0#32),
    unary main_c_1 main_v8 (broadcastInDim S2097152 ![] bcast_S_S2097152),
    binary main_v1 main_v8 main_v9 (cmpi .ne),
    binary main_v7 main_v9 main_v10 andi,
    nullary main_c_2 (constantI S_ 32 19#32),
    unary main_c_2 main_v11 (broadcastInDim S2097152 ![] bcast_S_S2097152),
    binary main_v1 main_v11 main_v12 muli,
    binary main_v12 main_v2 main_v13 addi,
    nullary main_c_3 (constantI S_ 32 361#32),
    TRef.unary (.of main_c_3) main_call1.v0 id,
    TRef.unary main_call1.v0 main_call1.v1 (broadcastInDim S2097152 ![] bcast_S_S2097152),
    TRef.ternary (.of main_v10) (.of main_v13) main_call1.v1 main_call1.v2 select ]

/-- The stretch that computes the table of how often each code occurs, as a matrix of floats. -/
abbrev countOps : List (HloOp τ sig (Elt F)) :=
  [ nullary main_c_4 (constantI S_ 32 0#32),
    unary main_c_4 main_v15 (broadcastInDim S362 ![] bcast_S_S362),
    nullary main_c_5 (constantI S_ 32 0#32),
    TRef.unary (.of main_c_5) main_call2.v0 id,
    TRef.unary main_call2.v0 main_call2.v1 (broadcastInDim S2097152 ![] bcast_S_S2097152),
    TRef.binary main_call2.v1 (.of main_v14) main_call2.v2 maxsi,
    nullary main_c_6 (constantI S_ 32 0#32),
    unary main_c_6 main_v17 (broadcastInDim S2097152 ![] bcast_S_S2097152),
    binary main_v16 main_v17 main_v18 (cmpi .slt),
    nullary main_c_7 (constantI S_ 32 362#32),
    unary main_c_7 main_v19 (broadcastInDim S2097152 ![] bcast_S_S2097152),
    binary main_v16 main_v19 main_v20 addi,
    ternary main_v18 main_v20 main_v16 main_v21 select,
    unary main_v21 main_v22 (broadcastInDim S2097152x1 ![0] bcast_S2097152_S2097152x1_0),
    nullary main_c_8 (constantI S_ 32 1#32),
    unary main_c_8 main_v23 (broadcastInDim S2097152 ![] bcast_S_S2097152),
    ternary main_v15 main_v22 main_v23 main_v24 (fun x i u => Host.scatter scatter_S362_S2097152x1_S2097152_n_0_0_1 IntOp.addi x i u),
    unary main_v24 main_v25 (extractStridedSlice S361 ![0] · slices_S362_S361_0),
    reshape main_v25 main_v26 rfl shapeCasts_S361_S19x19,
    unary main_v26 main_v27 (sitofp .f32) ]

/-- The stretch that computes the matrix's diagonal, its rows' sums and its columns' sums. -/
abbrev sumOps : List (HloOp τ sig (Elt F)) :=
  [ nullary main_v28 (iotaInDim S19x19 32 0),
    nullary main_v29 (iotaInDim S19x19 32 1),
    nullary main_c_9 (constantI S_ 32 0#32),
    unary main_c_9 main_v30 (broadcastInDim S19x19 ![] bcast_S_S19x19),
    binary main_v28 main_v30 main_v31 addi,
    binary main_v31 main_v29 main_v32 (cmpi .eq),
    nullary main_cst (constant S_ .f32 0x00000000#32),
    TRef.unary (.of main_cst) main_call3.v0 id,
    TRef.unary main_call3.v0 main_call3.v1 (broadcastInDim S19x19 ![] bcast_S_S19x19),
    TRef.ternary (.of main_v32) (.of main_v27) main_call3.v1 main_call3.v2 select,
    nullary main_cst_10 (constant S_ .f32 0x00000000#32),
    binary main_v33 main_cst_10 main_v34 (fun x v => Host.reduceAdd x v reducesTo_S19x19_S19_d1 h_S_),
    nullary main_cst_11 (constant S_ .f32 0x00000000#32),
    binary main_v27 main_cst_11 main_v35 (fun x v => Host.reduceAdd x v reducesTo_S19x19_S19_d1 h_S_),
    nullary main_cst_12 (constant S_ .f32 0x00000000#32),
    binary main_v27 main_cst_12 main_v36 (fun x v => Host.reduceAdd x v reducesTo_S19x19_S19_d0 h_S_) ]

/-- The stretch that computes the two ratios of the diagonal to the sums. -/
abbrev ratioOps : List (HloOp τ sig (Elt F)) :=
  [ nullary main_cst_13 (constant S_ .f32 0x322BCC77#32),
    unary main_cst_13 main_v37 (broadcastInDim S19 ![] bcast_S_S19),
    binary main_v35 main_v37 main_v38 addf,
    binary main_v34 main_v38 main_v39 Host.divf,
    nullary main_cst_14 (constant S_ .f32 0x322BCC77#32),
    unary main_cst_14 main_v40 (broadcastInDim S19 ![] bcast_S_S19),
    binary main_v36 main_v40 main_v41 addf,
    binary main_v34 main_v41 main_v42 Host.divf ]

/-- The stretch that computes the score of each class. -/
abbrev scoreOps : List (HloOp τ sig (Elt F)) :=
  [ nullary main_cst_15 (constant S_ .f32 0x40000000#32),
    unary main_cst_15 main_v43 (broadcastInDim S19 ![] bcast_S_S19),
    binary main_v43 main_v39 main_v44 mulf,
    binary main_v44 main_v42 main_v45 mulf,
    binary main_v39 main_v42 main_v46 addf,
    nullary main_cst_16 (constant S_ .f32 0x322BCC77#32),
    unary main_cst_16 main_v47 (broadcastInDim S19 ![] bcast_S_S19),
    binary main_v46 main_v47 main_v48 addf,
    binary main_v45 main_v48 main_v49 Host.divf,
    binary main_v34 main_v36 main_v50 addf,
    nullary main_cst_17 (constant S_ .f32 0x00000000#32),
    unary main_cst_17 main_v51 (broadcastInDim S19 ![] bcast_S_S19),
    binary main_v50 main_v51 main_v52 (cmpf .oeq),
    binary main_v34 main_v35 main_v53 addf,
    nullary main_cst_18 (constant S_ .f32 0x00000000#32),
    unary main_cst_18 main_v54 (broadcastInDim S19 ![] bcast_S_S19),
    binary main_v53 main_v54 main_v55 (cmpf .oeq),
    binary main_v52 main_v55 main_v56 andi,
    nullary main_cst_19 (constant S_ .f32 0x7FC00000#32),
    TRef.unary (.of main_cst_19 : TRef sig ⟨S_, .f32⟩) main_call4.v0 (broadcastInDim S19 ![] bcast_S_S19),
    TRef.ternary (.of main_v56) main_call4.v0 (.of main_v49) main_call4.v1 select,
    unary main_v55 main_v58 noti,
    binary main_v52 main_v58 main_v59 andi,
    nullary main_cst_20 (constant S_ .f32 0x00000000#32),
    TRef.unary (.of main_cst_20 : TRef sig ⟨S_, .f32⟩) main_call5.v0 (broadcastInDim S19 ![] bcast_S_S19),
    TRef.ternary (.of main_v59) main_call5.v0 (.of main_v57) main_call5.v1 select,
    nullary main_c_21 (constantI S_ 32 0#32),
    unary main_c_21 main_v61 (broadcastInDim S1 ![] bcast_S_S1),
    nullary main_cst_22 (constant S_ .f32 0x7FC00000#32),
    ternary main_v60 main_v61 main_cst_22 main_v62 (fun x i u => Host.scatter scatter_S19_S1_S__n_0_0_0 (fun _ b => b) x i u) ]

/-- All of the reference's operations. -/
abbrev ops : List (HloOp τ sig (Elt F)) := (labelOps ++ (countOps ++ (sumOps ++ ratioOps))) ++ scoreOps

set_option maxRecDepth 20000 in
set_option maxHeartbeats 2000000 in
/-- The first window of the program is the first four stretches. -/
theorem part0_eq (c : Dev nD) : main_part0 (F := F) c = seq (labelOps ++ (countOps ++ (sumOps ++ ratioOps))) := rfl

set_option maxRecDepth 20000 in
set_option maxHeartbeats 2000000 in
/-- The second window is the last stretch. -/
theorem part1_eq (c : Dev nD) : main_part1 (F := F) c = seq scoreOps := rfl

/-- The program is the straight line of all of them. -/
theorem main_eq (c : Dev nD) : main (F := F) c = seq ops := by
  rw [ops, seq_append, ← part0_eq c, ← part1_eq c]; rfl

theorem labelOps_sub : (labelOps : List (HloOp τ sig (Elt F))).Forall fun op => op.bufs ⊆ tcRefs τ sig :=
  ⟨nullary_bufs_sub .., nullary_bufs_sub .., nullary_bufs_sub .., quaternary_bufs_sub .., quaternary_bufs_sub .., reshape_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub ..⟩

theorem labelOps_fresh : (labelOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem countOps_sub : (countOps : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., reshape_bufs_sub .., unary_bufs_sub ..⟩

theorem countOps_fresh : (countOps : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem sumOps_sub : (sumOps : List (HloOp τ sig (Elt F))).Forall fun op => op.bufs ⊆ tcRefs τ sig :=
  ⟨nullary_bufs_sub .., nullary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub ..⟩

theorem sumOps_fresh : (sumOps : List (HloOp τ sig (Elt F))).Forall fun op => op.fresh = ∅ :=
  ⟨rfl, rfl, rfl, rfl, rfl, rfl, rfl, rfl, rfl, rfl, rfl, rfl, rfl, rfl, rfl, rfl⟩

theorem ratioOps_sub : (ratioOps : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub ..⟩

theorem ratioOps_fresh : (ratioOps : List (HloOp τ sig (Elt F))).Forall fun op => op.fresh = ∅ :=
  ⟨rfl, rfl, rfl, rfl, rfl, rfl, rfl, rfl⟩

theorem scoreOps_sub : (scoreOps : List (HloOp τ sig (Elt F))).Forall fun op => op.bufs ⊆ tcRefs τ sig :=
  ⟨nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., ternary_bufs_sub .., unary_bufs_sub .., binary_bufs_sub .., nullary_bufs_sub .., unary_bufs_sub .., ternary_bufs_sub .., nullary_bufs_sub .., unary_bufs_sub .., nullary_bufs_sub .., ternary_bufs_sub ..⟩

theorem scoreOps_fresh : (scoreOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation reads and writes the program's own arrays. -/
theorem ops_sub : (ops : List (HloOp τ sig (Elt F))).Forall fun op => op.bufs ⊆ tcRefs τ sig := by
  simp only [ops, List.forall_append]
  exact ⟨⟨labelOps_sub, countOps_sub, sumOps_sub, ratioOps_sub⟩, scoreOps_sub⟩

/-- No operation leaves an array undetermined. -/
theorem ops_fresh : ∀ op ∈ (ops : List (HloOp τ sig (Elt F))), op.fresh = ∅ := by
  rw [← List.forall_iff_forall_mem]
  simp only [ops, List.forall_append]
  exact ⟨⟨labelOps_fresh, countOps_fresh, sumOps_fresh, ratioOps_fresh⟩, scoreOps_fresh⟩

theorem scopedRefs_eq : (Finset.univ.filter fun b : Ref sig .tc => b.isScoped) = ∅ := by decide
theorem scopedSems_eq : (Finset.univ.filter fun sm : SemLoc sig => sm.isScoped .tc) = ∅ := by decide

/-- The reference ends with each array at what the operations leave there. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Line

end
-- ==== Proof.RefRead.lean ====
/-
  What the reference's stretches of operations compute, written as functions of the arrays they read, and the run of
  the reference: its arguments unchanged and its result at the composition of those functions.
-/
module

public import proofs.«01_k».proof.Proof.RefLine
public import Idealize.ShloMosaic.Lib.Pipeline.Frame
public import Idealize.ShloMosaic.Lib.Quiescent

@[expose] public section

noncomputable section

namespace Cert.ReferenceIdeal.Line

open Cert.ReferenceIdeal Cert.ReferenceIdeal.Gen
open Idealize.ShloMosaic Idealize.ShloMosaic.TcCoe Idealize.ShloMosaic.StableHlo Idealize.SL.Sem

variable {F : FTy → Type} [FloatOps F]

/-! ## The functions -/

/-- The class of each pixel: the place of its largest score. -/
def classOf (A : FVec F S8x19x512x512 .f32) : S8x512x512.Idx → BitVec 32 := fun j =>
  (Host.argReduce reducer_argmax_f32_i32 A (iotaInDim S8x19x512x512 32 1) (constant S_ .f32 0xFF800000#32) (constantI S_ 32 0#32)
    reducesTo_S8x19x512x512_S8x512x512_d1 h_S_ j).2

/-- One word for every pixel. -/
abbrev allPixels (c : BitVec 32) : S2097152.Idx → BitVec 32 := broadcastInDim S2097152 ![] bcast_S_S2097152 (constantI S_ 32 c)

/-- The code of a pixel from its target and its class, for all pixels in a row. -/
def codesOf (t l : S2097152.Idx → BitVec 32) : S2097152.Idx → BitVec 32 :=
  select (andi (andi (cmpi .sge t (allPixels 0#32)) (cmpi .slt t (allPixels 19#32))) (cmpi .ne t (allPixels 0#32)))
    (addi (muli t (allPixels 19#32)) l) (allPixels 361#32)

/-- The code of each pixel of the arguments. -/
def codes (A : FVec F S8x19x512x512 .f32) (B : S8x512x512.Idx → BitVec 32) : S2097152.Idx → BitVec 32 :=
  codesOf (shapeCast S2097152 B shapeCasts_S8x512x512_S2097152) (shapeCast S2097152 (classOf A) shapeCasts_S8x512x512_S2097152)

/-- A code made a place in the table: no less than zero. -/
def clipped (c : S2097152.Idx → BitVec 32) : S2097152.Idx → BitVec 32 := maxsi (allPixels 0#32) c

/-- A place counted from the table's end where it is below zero. -/
def wrapped (c : S2097152.Idx → BitVec 32) : S2097152.Idx → BitVec 32 :=
  select (cmpi .slt c (allPixels 0#32)) (addi c (allPixels 362#32)) c

/-- How often each place occurs. -/
def table (c : S2097152.Idx → BitVec 32) : S362.Idx → BitVec 32 :=
  Host.scatter scatter_S362_S2097152x1_S2097152_n_0_0_1 IntOp.addi (broadcastInDim S362 ![] bcast_S_S362 (constantI S_ 32 0#32))
    (broadcastInDim S2097152x1 ![0] bcast_S2097152_S2097152x1_0 c) (allPixels 1#32)

/-- The table but its last place, as a matrix of floats. -/
def square (t : S362.Idx → BitVec 32) : FVec F S19x19 .f32 :=
  sitofp .f32 (shapeCast S19x19 (extractStridedSlice S361 ![0] t slices_S362_S361_0) shapeCasts_S361_S19x19)

/-- Whether a place of the matrix lies on its diagonal. -/
def onDiag : S19x19.Idx → BitVec 1 :=
  cmpi .eq (addi (iotaInDim S19x19 32 0) (broadcastInDim S19x19 ![] bcast_S_S19x19 (constantI S_ 32 0#32))) (iotaInDim S19x19 32 1)

/-- The diagonal of a matrix, each entry the sum of its row with all else made zero. -/
def diagOf (M : FVec F S19x19 .f32) : FVec F S19 .f32 :=
  Host.reduceAdd (select onDiag M (broadcastInDim S19x19 ![] bcast_S_S19x19 (constant S_ .f32 0x00000000#32)))
    (constant S_ .f32 0x00000000#32) reducesTo_S19x19_S19_d1 h_S_

/-- The sums of the rows. -/
def rowsOf (M : FVec F S19x19 .f32) : FVec F S19 .f32 :=
  Host.reduceAdd M (constant S_ .f32 0x00000000#32) reducesTo_S19x19_S19_d1 h_S_

/-- The sums of the columns. -/
def colsOf (M : FVec F S19x19 .f32) : FVec F S19 .f32 :=
  Host.reduceAdd M (constant S_ .f32 0x00000000#32) reducesTo_S19x19_S19_d0 h_S_

/-- One float for every class. -/
abbrev allClasses (b : BitVec 32) : FVec F S19 .f32 := broadcastInDim S19 ![] bcast_S_S19 (constant S_ .f32 b)

/-- Hits over a sum of hits and misses. -/
def ratio (tp s : FVec F S19 .f32) : FVec F S19 .f32 := Host.divf tp (addf s (allClasses 0x322BCC77#32))

/-- Whether two counts add up to nothing. -/
def empty (a b : FVec F S19 .f32) : S19.Idx → BitVec 1 := cmpf .oeq (addf a b) (allClasses 0x00000000#32)

/-- Twice the product of two ratios over their sum. -/
def harmonic (p q : FVec F S19 .f32) : FVec F S19 .f32 :=
  Host.divf (mulf (mulf (allClasses 0x40000000#32) p) q) (addf (addf p q) (allClasses 0x322BCC77#32))

/-- The score of every class before class zero's is struck out. -/
def scored (tp fp fn p q : FVec F S19 .f32) : FVec F S19 .f32 :=
  select (andi (empty tp fn) (noti (empty tp fp))) (allClasses 0x00000000#32)
    (select (andi (empty tp fn) (empty tp fp)) (allClasses 0x7FC00000#32) (harmonic p q))

/-- Class zero's score struck out. -/
def struck (s : FVec F S19 .f32) : FVec F S19 .f32 :=
  Host.scatter scatter_S19_S1_S__n_0_0_0 (fun _ b => b) s (broadcastInDim S1 ![] bcast_S_S1 (constantI S_ 32 0#32))
    (constant S_ .f32 0x7FC00000#32)

/-- The matrix of the arguments. -/
def matrix (A : FVec F S8x19x512x512 .f32) (B : S8x512x512.Idx → BitVec 32) : FVec F S19x19 .f32 :=
  square (table (wrapped (clipped (codes A B))))

/-- The scores of a matrix. -/
def scores (M : FVec F S19x19 .f32) : FVec F S19 .f32 :=
  struck (scored (diagOf M) (rowsOf M) (colsOf M) (ratio (diagOf M) (rowsOf M)) (ratio (diagOf M) (colsOf M)))

/-! ## What each stretch leaves -/

section Reads
variable (V : Valuation τ sig (Elt F))

theorem label_v14 : after labelOps V (main_v14 : DevRef τ sig) = codes (V (main_arg0 : DevRef τ sig)) (V (main_arg1 : DevRef τ sig)) := by
  after_reads_simp
  rfl

theorem count_v27 : after countOps V (main_v27 : DevRef τ sig)
    = square (table (wrapped (clipped (V (main_v14 : DevRef τ sig))))) := by
  after_reads_simp
  rfl

theorem sum_v34 : after sumOps V (main_v34 : DevRef τ sig) = diagOf (V (main_v27 : DevRef τ sig)) := by
  after_reads_simp
  rfl

theorem sum_v35 : after sumOps V (main_v35 : DevRef τ sig) = rowsOf (V (main_v27 : DevRef τ sig)) := by
  after_reads_simp
  rfl

theorem sum_v36 : after sumOps V (main_v36 : DevRef τ sig) = colsOf (V (main_v27 : DevRef τ sig)) := by
  after_reads_simp
  rfl

theorem ratio_v39 : after ratioOps V (main_v39 : DevRef τ sig) = ratio (V (main_v34 : DevRef τ sig)) (V (main_v35 : DevRef τ sig)) := by
  after_reads_simp
  rfl

theorem ratio_v42 : after ratioOps V (main_v42 : DevRef τ sig) = ratio (V (main_v34 : DevRef τ sig)) (V (main_v36 : DevRef τ sig)) := by
  after_reads_simp
  rfl

theorem ratio_v34 : after ratioOps V (main_v34 : DevRef τ sig) = V (main_v34 : DevRef τ sig) := by after_reads_simp
theorem ratio_v35 : after ratioOps V (main_v35 : DevRef τ sig) = V (main_v35 : DevRef τ sig) := by after_reads_simp
theorem ratio_v36 : after ratioOps V (main_v36 : DevRef τ sig) = V (main_v36 : DevRef τ sig) := by after_reads_simp

theorem score_v62 : after scoreOps V (main_v62 : DevRef τ sig)
    = struck (scored (V (main_v34 : DevRef τ sig)) (V (main_v35 : DevRef τ sig)) (V (main_v36 : DevRef τ sig))
        (V (main_v39 : DevRef τ sig)) (V (main_v42 : DevRef τ sig))) := by
  after_reads_simp
  rfl

/-- What all of the operations leave, stretch by stretch. -/
theorem after_ops : after ops V = after scoreOps (after ratioOps (after sumOps (after countOps (after labelOps V)))) := by
  simp only [ops, after_append]

theorem ops_v62 : after ops V (main_v62 : DevRef τ sig)
    = scores (matrix (V (main_arg0 : DevRef τ sig)) (V (main_arg1 : DevRef τ sig))) := by
  rw [after_ops, score_v62, ratio_v39, ratio_v42, ratio_v34, ratio_v35, ratio_v36, sum_v34, sum_v35, sum_v36, count_v27,
    label_v14]
  rfl

theorem ops_arg0 : after ops V (main_arg0 : DevRef τ sig) = V (main_arg0 : DevRef τ sig) := by after_reads_simp
theorem ops_arg1 : after ops V (main_arg1 : DevRef τ sig) = V (main_arg1 : DevRef τ sig) := by after_reads_simp

end Reads

/-- **The reference's run**: it ends with its arguments as they were, its result the scores of their matrix, and every
    semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ d : Dev nD, r.2.mem ((d.tc : Thread nD τ).loc main_v62)
            = scores (matrix (m ((d.tc : Thread nD τ).loc main_arg0)) (m ((d.tc : Thread nD τ).loc main_arg1)))
        ∧ r.2.mem ((d.tc : Thread nD τ).loc main_arg0) = m ((d.tc : Thread nD τ).loc main_arg0)
        ∧ r.2.mem ((d.tc : Thread nD τ).loc main_arg1) = m ((d.tc : Thread nD τ).loc main_arg1)) ∧ r.2.sem = fun _ => 0 :=
  (θ_run defs _ _).mono (fun r h => ⟨fun d => ⟨(h d main_v62).trans (ops_v62 _), (h d main_arg0).trans (ops_arg0 _),
      (h d main_arg1).trans (ops_arg1 _)⟩, sem_eq_zero_of_no_sems (by decide) r.2⟩)
    (run m ρ)

end Cert.ReferenceIdeal.Line

end
-- ==== Proof.SameText.lean ====
/-
  The kernel and the kernel read over the extended reals are the same program, so their tables of bodies are equal.
-/
module

public import proofs.«01_k».proof.Proof.Gen.Kernel
public import proofs.«01_k».proof.Proof.Gen.KernelIdeal
public import Idealize.ShloMosaic.PureOps.BitExact

@[expose] public section

namespace Cert.SameText

open Idealize.ShloMosaic

set_option maxHeartbeats 4000000 in
/-- The bodies of the kernels agree, on every processor and for every label. -/
theorem bodies_eq : Cert.Kernel.defs₀ (F := Bits) = Cert.KernelIdeal.defs₀ (F := Bits) := by
  funext p ℓ a
  cases p <;> match ℓ with
    | ⟨0, _⟩ => rfl
    | ⟨1, _⟩ => rfl
    | ⟨2, _⟩ => rfl
    | ⟨3, _⟩ => rfl
    | ⟨4, _⟩ => rfl

/-- The whole tables agree. -/
theorem defs_eq : Cert.Kernel.defs (F := Bits) = Cert.KernelIdeal.defs (F := Bits) :=
  congrArg (fun D => Cert.KernelIdeal.sc.defs (Pipeline.defs Cert.KernelIdeal.pcfgs D)) bodies_eq

end Cert.SameText
-- ==== Proof.CountSums.lean ====
/- Sums of indicators over ranges, and a range taken in rows. -/
module

public import Mathlib.Data.EReal.Operations
public import Mathlib.Algebra.BigOperators.Intervals
public import Mathlib.Algebra.BigOperators.Fin

@[expose] public section

namespace Cert.Counting

open Finset

/-- How many of the first `n` places hold the value `j`. -/
def cnt (f : ℕ → ℕ) (n j : ℕ) : ℕ := ∑ p ∈ range n, if f p = j then 1 else 0

theorem cnt_succ (f : ℕ → ℕ) (n j : ℕ) : cnt f (n + 1) j = cnt f n j + if f n = j then 1 else 0 := sum_range_succ _ _

theorem cnt_add (f : ℕ → ℕ) (a b j : ℕ) : cnt f (a + b) j = cnt f a j + cnt (fun p => f (a + p)) b j :=
  sum_range_add _ _ _

theorem cnt_congr {f g : ℕ → ℕ} {n j : ℕ} (h : ∀ p < n, f p = g p) : cnt f n j = cnt g n j :=
  sum_congr rfl fun p hp => by rw [h p (mem_range.1 hp)]

theorem cnt_le (f : ℕ → ℕ) (n j : ℕ) : cnt f n j ≤ n := by
  induction n with
  | zero => exact le_rfl
  | succ n ih => rw [cnt_succ]; split <;> omega

/-- A range of `a · b` places taken in `a` rows of `b`. -/
theorem sum_rows {M : Type*} [AddCommMonoid M] (g : ℕ → M) (a b : ℕ) :
    ∑ p ∈ range (a * b), g p = ∑ x ∈ range a, ∑ y ∈ range b, g (b * x + y) := by
  induction a with
  | zero => simp
  | succ a ih => rw [Nat.succ_mul, sum_range_add, ih, sum_range_succ, Nat.mul_comm a b]

/-- The counts of rows of `b` places are the count of all. -/
theorem sum_cnt_rows (f : ℕ → ℕ) (a b j : ℕ) : ∑ x ∈ range a, cnt (fun y => f (b * x + y)) b j = cnt f (a * b) j :=
  (sum_rows (fun p => if f p = j then 1 else 0) a b).symm

/-- A range of `8 m` groups of sixteen lanes: the counts of the lanes are the count of the places in order. -/
theorem sum_cnt_lanes (f : ℕ → ℕ) (n j : ℕ) :
    ∑ l ∈ range 16, cnt (fun p => f (16 * p + l)) n j = cnt f (n * 16) j := by
  unfold cnt
  rw [sum_rows (fun p => if f p = j then 1 else 0) n 16]
  exact sum_comm

/-- Three rows of 128 bins, those below 361, in nineteen rows of nineteen. -/
theorem sum_bins (P : ℕ → Prop) [DecidablePred P] (N : ℕ → ℕ) (hP : ∀ j, P j → j < 361) :
    ∑ i ∈ range 3, ∑ k ∈ range 128, (if P (128 * i + k) then N (128 * i + k) else 0)
      = ∑ a ∈ range 19, ∑ b ∈ range 19, if P (19 * a + b) then N (19 * a + b) else 0 := by
  rw [← sum_rows (fun j => if P j then N j else 0) 3 128, ← sum_rows (fun j => if P j then N j else 0) 19 19,
    show 3 * 128 = 19 * 19 + 23 from rfl, sum_range_add]
  rw [sum_eq_zero (s := range 23), add_zero]
  intro x _
  exact if_neg fun h => by have := hP _ h; omega

/-- Only bin `20 c` is on the diagonal at class `c`. -/
theorem sum_diag (N : ℕ → ℕ) (c : ℕ) (hc : c < 19) :
    ∑ i ∈ range 3, ∑ k ∈ range 128, (if 128 * i + k = 20 * c ∧ 128 * i + k < 361 then N (128 * i + k) else 0) = N (20 * c) := by
  rw [sum_bins (fun j => j = 20 * c ∧ j < 361) N fun _ h => h.2, sum_eq_single_of_mem c (mem_range.2 hc),
    sum_eq_single_of_mem c (mem_range.2 hc)]
  · rw [if_pos (by omega)]; congr 1; omega
  · intro b hb hbc; exact if_neg (by omega)
  · intro a ha hac
    refine sum_eq_zero fun b hb => if_neg ?_
    rw [mem_range] at ha hb; omega

/-- The bins of row `c`. -/
theorem sum_row (N : ℕ → ℕ) (c : ℕ) (hc : c < 19) :
    ∑ i ∈ range 3, ∑ k ∈ range 128, (if (128 * i + k) / 19 = c ∧ 128 * i + k < 361 then N (128 * i + k) else 0)
      = ∑ b ∈ range 19, N (19 * c + b) := by
  rw [sum_bins (fun j => j / 19 = c ∧ j < 361) N fun _ h => h.2, sum_eq_single_of_mem c (mem_range.2 hc)]
  · refine sum_congr rfl fun b hb => if_pos ?_
    rw [mem_range] at hb; omega
  · intro a ha hac
    refine sum_eq_zero fun b hb => if_neg ?_
    rw [mem_range] at hb; omega

/-- The bins of column `c`. -/
theorem sum_col (N : ℕ → ℕ) (c : ℕ) (hc : c < 19) :
    ∑ i ∈ range 3, ∑ k ∈ range 128, (if (128 * i + k) % 19 = c ∧ 128 * i + k < 361 then N (128 * i + k) else 0)
      = ∑ a ∈ range 19, N (19 * a + c) := by
  rw [sum_bins (fun j => j % 19 = c ∧ j < 361) N fun _ h => h.2]
  refine sum_congr rfl fun a ha => ?_
  rw [mem_range] at ha
  rw [sum_eq_single_of_mem c (mem_range.2 hc)]
  · exact if_pos (by omega)
  · intro b hb hbc
    rw [mem_range] at hb
    exact if_neg (by omega)

/-- A sum of counts, as an extended real. -/
theorem coe_sum {ι : Type*} (s : Finset ι) (g : ι → ℕ) : ((∑ i ∈ s, g i : ℕ) : EReal) = ∑ i ∈ s, ((g i : ℕ) : EReal) :=
  Nat.cast_sum s g

end Cert.Counting
-- ==== Proof.HistCount.lean ====
/- The histogram calls' results on the extended reals: each bin is the number of codes that name it. -/
module

public import proofs.«01_k».proof.Proof.CountSums
public import proofs.«01_k».proof.Proof.Tiles
public import Idealize.ShloMosaic.Lib.IdealHost
public import Idealize.ShloMosaic.Lib.ValueIdx

@[expose] public section

noncomputable section

namespace Cert.KernelIdeal.Hist

open Idealize.ShloMosaic Cert.Counting Finset

/-- The index in row `p / 128`, column `p mod 128`, as a number. -/
def flat (C : ℕ → ℕ → BitVec 32) (p : ℕ) : ℕ := (C (p / 128) (p % 128)).toNat

/-- One lane's histogram after `n` groups: how many of the lane's indices named each bin. -/
theorem tally_count (C : ℕ → ℕ → BitVec 32) (y : S16x384.Idx) :
    ∀ n, tally (F := Ideal) C n y = ((cnt (fun p => flat C (16 * p + (y 0).val)) n (y 1).val : ℕ) : EReal)
  | 0 => by
    show Ideal.ofBits .f32 0x00000000#32 = _
    rw [Ideal.ofBits_zero_f32]; simp [cnt]
  | n + 1 => by
    have hy : (y 0).val < 16 := (y 0).isLt
    have ih := tally_count C y n
    have e : (C (n / 8) (16 * (n % 8) + (y 0).val)).toNat = flat C (16 * n + (y 0).val) := by
      unfold flat
      rw [show (16 * n + (y 0).val) / 128 = n / 8 by omega, show (16 * n + (y 0).val) % 128 = 16 * (n % 8) + (y 0).val by omega]
    rw [cnt_succ, Nat.cast_add, ← ih]
    show (if (C (n / 8) (16 * (n % 8) + (y 0).val)).toNat = (y 1).val then
      tally (F := Ideal) C n y + Ideal.ofBits .f32 0x3F800000#32 else tally (F := Ideal) C n y) = _
    rw [e, Ideal.ofBits_one_f32]
    by_cases h : flat C (16 * n + (y 0).val) = (y 1).val
    · rw [if_pos h, if_pos h, Nat.cast_one]
    · rw [if_neg h, if_neg h, Nat.cast_zero, add_zero]

/-- Bin `j` of the first lanes, added up. -/
theorem colSum_count (X : S16x384.Idx → EReal) (j : ℕ) (g : ℕ → ℕ) :
    ∀ n, (∀ l ≤ n, X (bin l j) = ((g l : ℕ) : EReal)) → colSum (F := Ideal) X j n = ((∑ l ∈ range (n + 1), g l : ℕ) : EReal)
  | 0, h => by rw [Finset.sum_range_one]; exact h 0 le_rfl
  | n + 1, h => by
    rw [sum_range_succ, Nat.cast_add, ← h (n + 1) le_rfl, ← colSum_count X j g n fun l hl => h l (by omega)]
    rfl

/-- All sixteen lanes after `m` rows: how many of the rows' indices name bin `j`. -/
theorem colSum_tally (C : ℕ → ℕ → BitVec 32) (m j : ℕ) (hj : j < 384) :
    colSum (F := Ideal) (tally C (8 * m)) j 15 = ((cnt (flat C) (128 * m) j : ℕ) : EReal) := by
  rw [colSum_count (tally (F := Ideal) C (8 * m)) j (fun l => cnt (fun p => flat C (16 * p + l)) (8 * m) j) 15, sum_cnt_lanes,
    show 8 * m * 16 = 128 * m by omega]
  intro l hl
  rw [tally_count]
  show ((cnt (fun p => flat C (16 * p + l % 16)) (8 * m) (j % 384) : ℕ) : EReal) = _
  rw [Nat.mod_eq_of_lt (by omega : l < 16), Nat.mod_eq_of_lt hj]

end Cert.KernelIdeal.Hist

namespace Cert.KernelIdeal.Launch

open Idealize.ShloMosaic Cert.Counting Cert.KernelIdeal.Hist Finset

/-- One bin of a histogram call's result: row `3 w + i`, column `k` counts tile `w`'s codes that are `128 i + k`. -/
theorem hist_count (m : ℕ) (C : ℕ → ℕ → BitVec 32) (y : S96x128.Idx) :
    hist (F := Ideal) m C y
      = ((cnt (fun p => flat C (128 * m * ((y 0).val / 3) + p)) (128 * m) (128 * ((y 0).val % 3) + (y 1).val) : ℕ) : EReal) := by
  have hy : (y 1).val < 128 := (y 1).isLt
  unfold hist
  rw [colSum_tally _ _ _ (by omega)]
  congr 1
  refine cnt_congr fun p hp => ?_
  unfold flat
  rw [Nat.mul_assoc 128 m, Nat.mul_add_div (by omega), Nat.mul_add_mod]

/-- The codes of the arguments as numbers. -/
def codeNat (A : S8x19x512x512.Idx → EReal) (B : S8x512x512.Idx → BitVec 32) (p : ℕ) : ℕ :=
  (Label.codeAt (F := Ideal) A B p).toNat

theorem flat_codes1 (A : S8x19x512x512.Idx → EReal) (B : S8x512x512.Idx → BitVec 32) (p : ℕ) :
    flat (codes1 (F := Ideal) A B) p = codeNat A B p := by
  unfold flat codes1 codeNat; rw [Nat.div_add_mod]

theorem flat_codes2 (A : S8x19x512x512.Idx → EReal) (B : S8x512x512.Idx → BitVec 32) (p : ℕ) :
    flat (codes2 (F := Ideal) A B) p = codeNat A B (1572864 + p) := by
  unfold flat codes2 codeNat; rw [Nat.div_add_mod]

/-- Of the 96 rows only every third, from row `i` on, enters row `i` of the summed histogram; there are 32. -/
theorem sum_thirds {M : Type*} [AddCommMonoid M] (g : ℕ → M) (i : ℕ) (hi : i < 3) :
    ∑ p ∈ range 96, (if p % 3 = i then g p else 0) = ∑ w ∈ range 32, g (3 * w + i) := by
  rw [sum_rows (fun p => if p % 3 = i then g p else 0) 32 3]
  refine sum_congr rfl fun w _ => ?_
  rw [sum_eq_single_of_mem i (mem_range.2 hi)]
  · exact if_pos (by omega)
  · intro b hb hbi
    rw [mem_range] at hb
    exact if_neg (by omega)

/-- Row `3 w + i` of the two results together. -/
theorem both_count (A : S8x19x512x512.Idx → EReal) (B : S8x512x512.Idx → BitVec 32) (y : S96x128.Idx) :
    hist (F := Ideal) 384 (codes1 (F := Ideal) A B) y + hist (F := Ideal) 128 (codes2 (F := Ideal) A B) y
      = ((cnt (fun p => codeNat A B (49152 * ((y 0).val / 3) + p)) 49152 (128 * ((y 0).val % 3) + (y 1).val)
          + cnt (fun p => codeNat A B (1572864 + (16384 * ((y 0).val / 3) + p))) 16384 (128 * ((y 0).val % 3) + (y 1).val) : ℕ) : EReal) := by
  rw [hist_count, hist_count, Nat.cast_add]
  simp only [flat_codes1, flat_codes2]

/-- The 32 tiles' counts of both calls are the count over all the pixels. -/
theorem sum_tiles (f : ℕ → ℕ) (j : ℕ) :
    ∑ w ∈ range 32, (cnt (fun p => f (49152 * w + p)) 49152 j + cnt (fun p => f (1572864 + (16384 * w + p))) 16384 j)
      = cnt f 2097152 j := by
  rw [sum_add_distrib, sum_cnt_rows f 32 49152 j, sum_cnt_rows (fun p => f (1572864 + p)) 32 16384 j]
  exact (cnt_add f 1572864 524288 j).symm

end Cert.KernelIdeal.Launch
-- ==== Proof.DiceCount.lean ====
/- The scoring kernel's counts on the extended reals: sums of the histograms' bins on the diagonal, along a row and down
   a column of the matrix. -/
module

public import proofs.«01_k».proof.Proof.HistCount
public import proofs.«01_k».proof.Proof.DiceRun
public import Idealize.ShloMosaic.Lib.MatmulPlain

@[expose] public section

noncomputable section

namespace Cert.KernelIdeal.Dice

open Idealize.ShloMosaic hiding ix2
open Idealize.ShloMosaic.ValueIdx Cert.Counting Finset
open Gen

/-- A choice between one and zero by a bit that says `P`. -/
theorem pick_eq (b : BitVec 1) (P : Prop) [Decidable P] (h : b = if P then 1#1 else 0#1) :
    Scalar.select b (Ideal.ofBits .f32 0x3F800000#32) (Ideal.ofBits .f32 0x00000000#32) = if P then (1 : EReal) else 0 := by
  subst h
  rw [Ideal.ofBits_one_f32, Ideal.ofBits_zero_f32]
  by_cases p : P <;> simp [p, Scalar.select]

/-- The ones and zeros of an array of bits. -/
abbrev picked {s : Shape} (b : IVec s 1) : FVec Ideal s .f32 :=
  select b (broadcast s (Scalar.ofBits (F := Ideal) .f32 0x3F800000#32)) (broadcast s (Scalar.ofBits (F := Ideal) .f32 0x00000000#32))

/-- What the bins of row `i` that `P` names hold together. -/
abbrev share (P : ℕ → Prop) [DecidablePred P] (N : ℕ → ℕ) (i : ℕ) : ℕ :=
  ∑ k ∈ range 128, if P (128 * i + k) then N (128 * i + k) else 0

/-- The bins of class `c` on the diagonal, along its row and down its column. -/
abbrev onDiag (c j : ℕ) : Prop := j = 20 * c ∧ j < 361
abbrev onRow (c j : ℕ) : Prop := j / 19 = c ∧ j < 361
abbrev onCol (c j : ℕ) : Prop := j % 19 = c ∧ j < 361

/-- A count of bins added to what there is: the bins of a row that the bits name. -/
theorem step_apply (v : FVec Ideal S19x1 .f32) (b : IVec S19x128 1) (h : FVec Ideal S1x128 .f32) (P : ℕ → ℕ → Prop)
    [∀ c, DecidablePred (P c)] (N : ℕ → ℕ) (i : ℕ)
    (hb : ∀ (c : Fin 19) (k : Fin 128), b (ix2 c k) = if P c.val (128 * i + k.val) then 1#1 else 0#1)
    (hh : ∀ k : Fin 128, h (ix2 0 k) = ((N (128 * i + k.val) : ℕ) : EReal)) (c : Fin 19) :
    addf v (matmul dot_S19x128_S1x128_S19x1_1_1_0_0_n_n none (picked b) h (constant S19x1 .f32 0x00000000#32)) (ix2 c 0)
      = v (ix2 c 0) + ((share (P c.val) N i : ℕ) : EReal) := by
  show v (ix2 c 0) + FloatOps.matmul (F := Ideal) (DotDims.transposedRhs 19 128 1) none (picked b) h (constant S19x1 .f32 0x00000000#32) (ix2 c 0) = _
  rw [Ideal.matmul_transposedRhs_apply]
  congr 1
  rw [constant_apply, Ideal.ofBits_zero_f32, zero_add, coe_sum, Finset.sum_range]
  refine Fintype.sum_congr _ _ fun k => ?_
  rw [hh]
  show Scalar.select (b (ix2 c k)) (Ideal.ofBits .f32 0x3F800000#32) (Ideal.ofBits .f32 0x00000000#32) * _ = _
  rw [pick_eq _ _ (hb c k)]
  by_cases p : P c.val (128 * i + k.val) <;> simp [p]

/-- One row of the summed histogram: the rows of the two arrays that the bits name, added up. -/
theorem row_apply (H1 H2 : FVec Ideal S96x128 .f32) (b : IVec S1x96 1) (i : ℕ) (hi : i < 3)
    (hb : ∀ p : Fin 96, b (ix2 0 p) = if p.val % 3 = i then 1#1 else 0#1) (N : ℕ → ℕ → ℕ)
    (hN : ∀ (p : Fin 96) (k : Fin 128), H1 (ix2 p k) + H2 (ix2 p k) = ((N p.val k.val : ℕ) : EReal)) (k : Fin 128) :
    matmul dot_S1x96_S96x128_S1x128_1_0_0_1_n_n none (picked b) (k4_pay2 H1 H2) (constant S1x128 .f32 0x00000000#32) (ix2 0 k)
      = ((∑ w ∈ range 32, N (3 * w + i) k.val : ℕ) : EReal) := by
  show FloatOps.matmul (F := Ideal) (DotDims.plain 1 96 128) none (picked b) (k4_pay2 H1 H2) (constant S1x128 .f32 0x00000000#32) (ix2 0 k) = _
  rw [Ideal.matmul_plain_apply, constant_apply, Ideal.ofBits_zero_f32, zero_add, ← Launch.sum_thirds (fun p => N p k.val) i hi, coe_sum,
    Finset.sum_range]
  refine Fintype.sum_congr _ _ fun p => ?_
  have e : k4_pay2 (F := Ideal) H1 H2 (ix2 p k) = ((N p.val k.val : ℕ) : EReal) := by
    unfold k4_pay2
    simp only [shapeCast_self]
    exact hN p k
  rw [e]
  show Scalar.select (b (ix2 0 p)) (Ideal.ofBits .f32 0x3F800000#32) (Ideal.ofBits .f32 0x00000000#32) * _ = _
  rw [pick_eq _ _ (hb p)]
  by_cases q : p.val % 3 = i <;> simp [q]

section Rows
variable {H1 H2 : FVec Ideal S96x128 .f32} {N : ℕ → ℕ → ℕ}
  (hN : ∀ (p : Fin 96) (k : Fin 128), H1 (ix2 p k) + H2 (ix2 p k) = ((N p.val k.val : ℕ) : EReal)) (k : Fin 128)
include hN

/-- The three rows of the summed histogram. -/
theorem sum0_apply : sum0 H1 H2 (ix2 0 k) = ((∑ w ∈ range 32, N (3 * w + 0) k.val : ℕ) : EReal) := by
  unfold sum0 k4_pay4
  exact row_apply H1 H2 _ 0 (by omega) (by decide +kernel) N hN k
theorem sum1_apply : sum1 H1 H2 (ix2 0 k) = ((∑ w ∈ range 32, N (3 * w + 1) k.val : ℕ) : EReal) := by
  unfold sum1 k4_pay17
  exact row_apply H1 H2 _ 1 (by omega) (by decide +kernel) N hN k
theorem sum2_apply : sum2 H1 H2 (ix2 0 k) = ((∑ w ∈ range 32, N (3 * w + 2) k.val : ℕ) : EReal) := by
  unfold sum2 k4_pay30
  exact row_apply H1 H2 _ 2 (by omega) (by decide +kernel) N hN k
end Rows

/-- Three steps from zero. -/
theorem three (a0 a1 a2 : ℕ) (g : ℕ → ℕ) (h0 : g 0 = a0) (h1 : g 1 = a1) (h2 : g 2 = a2) :
    (0 : EReal) + (a0 : EReal) + (a1 : EReal) + (a2 : EReal) = ((∑ i ∈ range 3, g i : ℕ) : EReal) := by
  rw [sum_range_succ, sum_range_succ, sum_range_one, h0, h1, h2, zero_add, Nat.cast_add, Nat.cast_add]

/-- The counts start at zero. -/
theorem pay3_apply (c : Fin 19) : k4_pay3 (F := Ideal) (ix2 c 0) = 0 := Ideal.ofBits_zero_f32

section Counts
variable {h0 h1 h2 : FVec Ideal S1x128 .f32} {N : ℕ → ℕ}
  (e0 : ∀ k : Fin 128, h0 (ix2 0 k) = ((N (128 * 0 + k.val) : ℕ) : EReal))
  (e1 : ∀ k : Fin 128, h1 (ix2 0 k) = ((N (128 * 1 + k.val) : ℕ) : EReal))
  (e2 : ∀ k : Fin 128, h2 (ix2 0 k) = ((N (128 * 2 + k.val) : ℕ) : EReal)) (c : Fin 19)
include e0 e1 e2

/-- Class `c`'s count on the diagonal, -/
theorem diag2_apply : diag2 h0 h1 h2 (ix2 c 0) = ((N (20 * c.val) : ℕ) : EReal) := by
  have s0 : diag0 h0 (ix2 c 0) = k4_pay3 (F := Ideal) (ix2 c 0) + ((share (onDiag c.val) N 0 : ℕ) : EReal) := by
    unfold diag0 k4_pay14 k4_pay9 k4_pay8
    exact step_apply _ _ h0 onDiag N 0 (by decide +kernel) e0 c
  have s1 : diag1 h0 h1 (ix2 c 0) = diag0 h0 (ix2 c 0) + ((share (onDiag c.val) N 1 : ℕ) : EReal) := by
    unfold diag1 k4_pay27 k4_pay21
    exact step_apply _ _ h1 onDiag N 1 (by decide +kernel) e1 c
  have s2 : diag2 h0 h1 h2 (ix2 c 0) = diag1 h0 h1 (ix2 c 0) + ((share (onDiag c.val) N 2 : ℕ) : EReal) := by
    unfold diag2 k4_pay38 k4_pay33
    exact step_apply _ _ h2 onDiag N 2 (by decide +kernel) e2 c
  rw [s2, s1, s0, pay3_apply, three _ _ _ (share (onDiag c.val) N) rfl rfl rfl, sum_diag N c.val c.isLt]

/-- along its row, -/
theorem rows2_apply : rows2 h0 h1 h2 (ix2 c 0) = ((∑ b ∈ range 19, N (19 * c.val + b) : ℕ) : EReal) := by
  have s0 : rows0 h0 (ix2 c 0) = k4_pay3 (F := Ideal) (ix2 c 0) + ((share (onRow c.val) N 0 : ℕ) : EReal) := by
    unfold rows0 k4_pay15 k4_pay10
    exact step_apply _ _ h0 onRow N 0 (by decide +kernel) e0 c
  have s1 : rows1 h0 h1 (ix2 c 0) = rows0 h0 (ix2 c 0) + ((share (onRow c.val) N 1 : ℕ) : EReal) := by
    unfold rows1 k4_pay28 k4_pay22
    exact step_apply _ _ h1 onRow N 1 (by decide +kernel) e1 c
  have s2 : rows2 h0 h1 h2 (ix2 c 0) = rows1 h0 h1 (ix2 c 0) + ((share (onRow c.val) N 2 : ℕ) : EReal) := by
    unfold rows2 k4_pay39 k4_pay34
    exact step_apply _ _ h2 onRow N 2 (by decide +kernel) e2 c
  rw [s2, s1, s0, pay3_apply, three _ _ _ (share (onRow c.val) N) rfl rfl rfl, sum_row N c.val c.isLt]

/-- and down its column. -/
theorem cols2_apply : cols2 h0 h1 h2 (ix2 c 0) = ((∑ a ∈ range 19, N (19 * a + c.val) : ℕ) : EReal) := by
  have s0 : cols0 h0 (ix2 c 0) = k4_pay3 (F := Ideal) (ix2 c 0) + ((share (onCol c.val) N 0 : ℕ) : EReal) := by
    unfold cols0 k4_pay16
    exact step_apply _ _ h0 onCol N 0 (by decide +kernel) e0 c
  have s1 : cols1 h0 h1 (ix2 c 0) = cols0 h0 (ix2 c 0) + ((share (onCol c.val) N 1 : ℕ) : EReal) := by
    unfold cols1 k4_pay29
    exact step_apply _ _ h1 onCol N 1 (by decide +kernel) e1 c
  have s2 : cols2 h0 h1 h2 (ix2 c 0) = cols1 h0 h1 (ix2 c 0) + ((share (onCol c.val) N 2 : ℕ) : EReal) := by
    unfold cols2 k4_pay40
    exact step_apply _ _ h2 onCol N 2 (by decide +kernel) e2 c
  rw [s2, s1, s0, pay3_apply, three _ _ _ (share (onCol c.val) N) rfl rfl rfl, sum_col N c.val c.isLt]

end Counts

end Cert.KernelIdeal.Dice
-- ==== Proof.ScatterCount.lean ====
/- A table of words counted up by a scatter: each entry is the number of updates that name it. And one entry of a vector
   set by a scatter. -/
module

public import proofs.«01_k».proof.Proof.CountSums
public import Idealize.ShloMosaic.Lib.Routing.OpsPair
public import Idealize.ShloMosaic.Lib.Routing.OpsOne

@[expose] public section

namespace Cert.Counting

open Idealize.ShloMosaic Idealize.ShloMosaic.Routing Finset

/-- Counting in words while going through the places `0 … K - 1`. -/
theorem foldl_words (K : ℕ) (p : Fin K → Prop) [DecidablePred p] (a : BitVec 32) :
    (List.finRange K).foldl (fun a n => if p n then IntOp.addi a 1#32 else a) a
      = a + BitVec.ofNat 32 (∑ n : Fin K, if p n then 1 else 0) := by
  have aux : ∀ (L : List (Fin K)) (a : BitVec 32),
      L.foldl (fun a n => if p n then IntOp.addi a 1#32 else a) a = a + BitVec.ofNat 32 ((L.map fun n => if p n then 1 else 0).sum) := by
    intro L
    induction L with
    | nil => intro a; simp
    | cons n L ih =>
      intro a
      rw [List.foldl_cons, ih, List.map_cons, List.sum_cons]
      by_cases h : p n
      · rw [if_pos h, if_pos h, BitVec.ofNat_add]
        unfold IntOp.addi
        exact BitVec.add_assoc _ _ _
      · rw [if_neg h, if_neg h, Nat.zero_add]
  rw [aux, Fin.sum_univ_def]

section Lands
variable {M N : ℕ} (d : ScatterDims (shape1 M) (shape2 N 1) (shape1 N)) (hi : d.insertedWindowDims = [0])
  (hs : d.scatterDimsToOperandDims = [0]) (hv : d.indexVectorDim = 1)
include hi hs hv

/-- With one index word for each update, an update lands where its word says. -/
theorem lands_iff (idx : IVec (shape2 N 1) 32) (i : Fin N) (x : Fin M) :
    d.resultIdx? (ValueIdx.ix1 i) idx = some (ValueIdx.ix1 x) ↔ (idx (ValueIdx.ix2 i (0 : Fin 1))).toInt = (x.val : ℤ) := by
  have mem : (0 : Fin 1) ∈ d.scatterDimsToOperandDims := hs ▸ List.mem_singleton.2 rfl
  have w0 : d.window (ValueIdx.ix1 i) 0 = 0 := by
    unfold ScatterDims.window
    refine dif_neg fun h => ?_
    have h' := (List.mem_filter.1 h).2
    rw [hi] at h'
    exact of_decide_eq_true h' (List.mem_singleton.2 rfl)
  have at0 : ∀ a : Fin 1, (ValueIdx.ix1 i a).val = i.val := fun a => by
    obtain rfl := Subsingleton.elim a 0; rfl
  have e : ∀ c, d.siIdx (ValueIdx.ix1 i) c = ValueIdx.ix2 i (0 : Fin 1) := by
    intro c
    funext b
    refine Fin.ext ?_
    match b with
    | ⟨0, _⟩ =>
      unfold ScatterDims.siIdx
      rw [dif_neg (by rw [hv]; exact Nat.zero_ne_one)]
      exact at0 _
    | ⟨1, h1⟩ => exact Nat.lt_one_iff.1 (d.siIdx (ValueIdx.ix1 i) c ⟨1, h1⟩).isLt
  rw [resultIdx?_ix1, w0]
  unfold ScatterDims.start
  rw [dif_pos mem, e]
  simp

/-- A table of zeros to which a scatter adds one for every index: the number of the indices that name the entry. -/
theorem scatter_count (idx : IVec (shape2 N 1) 32) (f : ℕ → ℕ) (hf : ∀ i : Fin N, (idx (ValueIdx.ix2 i (0 : Fin 1))).toInt = (f i.val : ℤ))
    (x0 : IVec (shape1 M) 32) (h0 : ∀ j, x0 j = 0#32) (upd : IVec (shape1 N) 32) (hu : ∀ j, upd j = 1#32) (x : Fin M) :
    Host.scatter d IntOp.addi x0 idx upd (ValueIdx.ix1 x) = BitVec.ofNat 32 (cnt f N x.val) := by
  have hK : (shape1 N).numel = N := by simp [Shape.numel]
  have hn : ∀ n : Fin (shape1 N).numel, (shape1 N).rowMajor.symm n = ValueIdx.ix1 (n.cast hK) := fun n =>
    ((shape1 N).rowMajor.symm_apply_eq).2 (Fin.ext (by rw [Shape.rowMajor_val_one]; rfl))
  rw [scatter_at, h0]
  simp only [hu, hn, lands_iff d hi hs hv, hf, Nat.cast_inj]
  rw [foldl_words, BitVec.zero_add]
  have e : cnt f N x.val = cnt f (shape1 N).numel x.val := by rw [hK]
  rw [e]
  exact congrArg (BitVec.ofNat 32) (Finset.sum_range fun p => if f p = x.val then 1 else 0).symm

end Lands

/-- A scatter that sets the one entry `k` of a vector. -/
theorem scatter_entry {α : Type} {N : ℕ} (d : ScatterDims (shape1 N) (shape1 1) shape0) (hi : d.insertedWindowDims = [0])
    (hs : d.scatterDimsToOperandDims = [0]) (x0 : (shape1 N).Idx → α) (idx : IVec (shape1 1) 32) (upd : shape0.Idx → α) (k : Fin N)
    (hk : (idx (ValueIdx.ix1 0)).toInt = (k.val : ℤ)) (e : Fin N) :
    Host.scatter d (fun _ b => b) x0 idx upd (ValueIdx.ix1 e) = if e = k then upd ValueIdx.ix0 else x0 (ValueIdx.ix1 e) := by
  have land := lands_one d hi hs idx k hk e
  split
  · next h => exact scatter_set_hit d x0 idx upd _ _ (fun j _ => congrArg upd (ValueIdx.eq_ix0 j)) _ (land.2 h)
  · next h => exact scatter_set_miss d x0 idx upd _ fun j hj => h (land.1 (ValueIdx.eq_ix0 j ▸ hj))

end Cert.Counting
-- ==== Proof.RefTable.lean ====
/- The reference's table, matrix and counts on the extended reals, from the codes as numbers. -/
module

public import proofs.«01_k».proof.Proof.RefRead
public import proofs.«01_k».proof.Proof.ScatterCount
public import Idealize.ShloMosaic.Lib.Pipeline.Value
public import Idealize.ShloMosaic.Lib.IdealHost
public import Idealize.ShloMosaic.PureOps.Ideal.Laws

@[expose] public section

noncomputable section

namespace Cert.ReferenceIdeal.Line

open Cert.ReferenceIdeal Cert.ReferenceIdeal.Gen Cert.Counting
open Idealize.ShloMosaic
open Idealize.ShloMosaic.ValueIdx Finset

/-- A code that is not negative is its own place in the table. -/
theorem place_eq (c : S2097152.Idx → BitVec 32) (j : S2097152.Idx) (h : (c j).toNat < 2 ^ 31) : wrapped (clipped c) j = c j := by
  have e : clipped c j = c j := by
    show IntOp.maxsi 0#32 (c j) = c j
    have : (c j).toInt = ((c j).toNat : ℤ) := by rw [BitVec.toInt_eq_toNat_cond, if_pos (by omega)]
    unfold IntOp.maxsi
    refine if_neg ?_
    rw [BitVec.slt_iff_toInt_lt, this]
    exact not_lt.2 (Int.natCast_nonneg _)
  show Scalar.select (IntOp.cmpi .slt (clipped c j) 0#32) _ (clipped c j) = c j
  rw [e]
  exact Routing.wrap_of_lt _ _ h

/-- The table counts the codes. -/
theorem table_apply (c : S2097152.Idx → BitVec 32) (f : ℕ → ℕ) (hc : ∀ p : Fin 2097152, (c (ix1 p)).toNat = f p.val)
    (hf : ∀ p, f p < 2 ^ 31) (x : Fin 362) : table c (ix1 x) = BitVec.ofNat 32 (cnt f 2097152 x.val) := by
  refine scatter_count (M := 362) (N := 2097152) scatter_S362_S2097152x1_S2097152_n_0_0_1 rfl rfl rfl _ f (fun i => ?_) _
    (fun _ => rfl) _ (fun _ => rfl) x
  have e : broadcastInDim S2097152x1 ![0] bcast_S2097152_S2097152x1_0 c (ix2 i (0 : Fin 1)) = c (ix1 i) := by
    unfold broadcastInDim
    refine congrArg c (funext fun a => Fin.ext ?_)
    match a with
    | ⟨0, _⟩ => exact congrArg Fin.val (dif_neg (by decide : ¬ S2097152.size 0 = 1))
  rw [e, BitVec.toInt_eq_toNat_cond, if_pos (by have := hf i.val; have := hc i; omega), hc]

/-- An entry of the matrix. -/
theorem square_apply (t : S362.Idx → BitVec 32) (N : ℕ → ℕ) (ht : ∀ x : Fin 362, t (ix1 x) = BitVec.ofNat 32 (N x.val))
    (hN : ∀ x, N x < 2 ^ 31) (a b : Fin 19) : square (F := Ideal) t (ix2 a b) = ((N (19 * a.val + b.val) : ℕ) : EReal) := by
  have ha := a.isLt
  have hb := b.isLt
  have e : shapeCast S19x19 (extractStridedSlice S361 ![0] t slices_S362_S361_0) shapeCasts_S361_S19x19 (ix2 a b)
      = t (ix1 ⟨19 * a.val + b.val, by omega⟩) := by
    rw [shapeCast_apply _ _ (ix2 a b) (ix1 ⟨19 * a.val + b.val, by omega⟩)
      (by rw [Shape.rowMajor_val_one, Shape.rowMajor_val_two]; show 19 * a.val + b.val = a.val * 19 + b.val; omega)]
    refine extractStridedSlice_apply _ _ _ _ _ fun x => ?_
    match x with
    | ⟨0, _⟩ => exact (Nat.zero_add _).symm
  have h31 := hN (19 * a.val + b.val)
  show (((shapeCast S19x19 (extractStridedSlice S361 ![0] t slices_S362_S361_0) shapeCasts_S361_S19x19 (ix2 a b)).toInt : ℝ) : EReal) = _
  rw [e, ht]
  have : (BitVec.ofNat 32 (N (19 * a.val + b.val))).toInt = (N (19 * a.val + b.val) : ℤ) := by
    rw [BitVec.toInt_eq_toNat_cond, BitVec.toNat_ofNat, Nat.mod_eq_of_lt (by omega), if_pos (by omega)]
  rw [this, Int.cast_natCast, EReal.coe_natCast]

theorem reduces_cols : S19x19.Reduces [1] S19 := by decide
theorem reduces_rows : S19x19.Reduces [0] S19 := by decide

/-- A sum along a row, -/
theorem sumRow_apply (M : FVec Ideal S19x19 .f32) (c : Fin 19) :
    Host.reduceAdd M (constant S_ .f32 0x00000000#32) reducesTo_S19x19_S19_d1 h_S_ (ix1 c) = ∑ b : Fin 19, M (ix2 c b) := by
  refine (Ideal.hostReduceAdd_single reducesTo_S19x19_S19_d1 reduces_cols M (Ideal.ofBits .f32 0x00000000#32) (ix1 c)).trans ?_
  rw [Ideal.ofBits_zero_f32, zero_add]
  refine Fintype.sum_congr _ _ fun k => congrArg M (funext fun a => ?_)
  match a with
  | ⟨0, _⟩ => rfl
  | ⟨1, _⟩ => rfl

/-- and down a column. -/
theorem sumCol_apply (M : FVec Ideal S19x19 .f32) (c : Fin 19) :
    Host.reduceAdd M (constant S_ .f32 0x00000000#32) reducesTo_S19x19_S19_d0 h_S_ (ix1 c) = ∑ a : Fin 19, M (ix2 a c) := by
  refine (Ideal.hostReduceAdd_single reducesTo_S19x19_S19_d0 reduces_rows M (Ideal.ofBits .f32 0x00000000#32) (ix1 c)).trans ?_
  rw [Ideal.ofBits_zero_f32, zero_add]
  refine Fintype.sum_congr _ _ fun k => congrArg M (funext fun a => ?_)
  match a with
  | ⟨0, _⟩ => rfl
  | ⟨1, _⟩ => rfl

theorem onDiag_apply : ∀ a b : Fin 19, onDiag (ix2 a b) = if a = b then 1#1 else 0#1 := by decide +kernel

section Counts
variable {M : FVec Ideal S19x19 .f32} {N : ℕ → ℕ} (hM : ∀ a b : Fin 19, M (ix2 a b) = ((N (19 * a.val + b.val) : ℕ) : EReal)) (c : Fin 19)
include hM

/-- Class `c`'s count on the diagonal, -/
theorem diagOf_apply : diagOf M (ix1 c) = ((N (20 * c.val) : ℕ) : EReal) := by
  unfold diagOf
  rw [sumRow_apply]
  have e : ∀ b : Fin 19, select onDiag M (broadcastInDim S19x19 ![] bcast_S_S19x19 (constant S_ .f32 0x00000000#32)) (ix2 c b)
      = if c = b then ((N (20 * c.val) : ℕ) : EReal) else 0 := fun b => by
    show Scalar.select (onDiag (ix2 c b)) (M (ix2 c b)) (Ideal.ofBits .f32 0x00000000#32) = _
    rw [onDiag_apply, hM, Ideal.ofBits_zero_f32]
    by_cases h : c = b
    · subst h
      rw [if_pos rfl, if_pos rfl, select_one]
      congr 2; omega
    · rw [if_neg h, if_neg h, select_zero]
  simp only [e]
  exact (Finset.sum_ite_eq Finset.univ c fun _ => ((N (20 * c.val) : ℕ) : EReal)).trans (if_pos (Finset.mem_univ c))

/-- along its row, -/
theorem rowsOf_apply : rowsOf M (ix1 c) = ((∑ b ∈ range 19, N (19 * c.val + b) : ℕ) : EReal) := by
  unfold rowsOf
  rw [sumRow_apply, coe_sum, Finset.sum_range]
  exact Fintype.sum_congr _ _ fun b => hM c b

/-- and down its column. -/
theorem colsOf_apply : colsOf M (ix1 c) = ((∑ a ∈ range 19, N (19 * a + c.val) : ℕ) : EReal) := by
  unfold colsOf
  rw [sumCol_apply, coe_sum, Finset.sum_range]
  exact Fintype.sum_congr _ _ fun a => hM a c

end Counts

/-- Class zero's score is struck out and the others are kept. -/
theorem struck_apply (s : FVec Ideal S19 .f32) (c : Fin 19) :
    struck s (ix1 c) = if c = 0 then Ideal.ofBits .f32 0x7FC00000#32 else s (ix1 c) :=
  scatter_entry (N := 19) scatter_S19_S1_S__n_0_0_0 rfl rfl s _ _ 0 rfl c

end Cert.ReferenceIdeal.Line
-- ==== Proof.RefClass.lean ====
/- The reference's class of a pixel and its code on the extended reals: the kernel's scan of the nineteen scores finds the
   same class, and the code is the same word. -/
module

public import proofs.«01_k».proof.Proof.RefRead
public import proofs.«01_k».proof.Proof.Flat
public import Idealize.ShloMosaic.PureOps.Ideal.Laws
public import Mathlib.Data.List.Sort

@[expose] public section

noncomputable section

namespace Cert.ReferenceIdeal.Line

open Cert.ReferenceIdeal Cert.ReferenceIdeal.Gen
open Idealize.ShloMosaic
open Cert.KernelIdeal (Label.best Label.label Label.label_le Label.scoreOf Label.targetOf Label.codeAt Label.pair Label.code)

/-- The float the search starts from is the least. -/
theorem ofBits_least : Ideal.ofBits .f32 0xFF800000#32 = ⊥ := by simp [Ideal.ofBits, Ideal.ieee]

theorem bit_if (q : Prop) [Decidable q] : BitVec.ofBool (decide q) = if q then 1#1 else 0#1 := by
  by_cases h : q <;> simp [h]

/-- One step of the search, in plain terms. -/
theorem reducer_eq (a b : EReal) (i j : BitVec 32) :
    reducer_argmax_f32_i32 (F := Ideal) (a, i) (b, j) = (if b < a then a else b, if b < a ∨ (a = b ∧ i.slt j = true) then i else j) := by
  unfold reducer_argmax_f32_i32
  simp only [Ideal.cmpf_def, Ideal.cmp, IntOp.cmpi, IntOp.ori, IntOp.andi, Scalar.select]
  by_cases h : b < a
  · have e : ∀ x y : Bool, BitVec.ofBool true ||| BitVec.ofBool false ||| BitVec.ofBool x &&& BitVec.ofBool y = 1 := by decide
    simp only [h, decide_true, ne_eq, not_true_eq_false, decide_false, e, if_true, true_or]
    rfl
  · by_cases e : a = b
    · subst e
      by_cases hs : i.slt j = true <;> simp [hs]
    · simp [h, e]

/-- The search over scores in order finds what the kernel's scan finds. -/
theorem search_eq (a : ℕ → EReal) : ∀ k, k < 2147483648 →
    ((List.range (k + 1)).map fun n => (a n, BitVec.ofNat 32 n)).foldl (reducer_argmax_f32_i32 (F := Ideal)) (⊥, 0#32)
      = (Label.best (F := Ideal) a k, Label.label (F := Ideal) a k)
  | 0, _ => by
    show reducer_argmax_f32_i32 (F := Ideal) (⊥, 0#32) (a 0, 0#32) = (a 0, 0#32)
    rw [reducer_eq]
    simp
  | k + 1, hk => by
    rw [List.range_succ, List.map_append, List.foldl_append, search_eq a k (by omega), List.map_singleton, List.foldl_cons, List.foldl_nil,
      reducer_eq]
    have hl := Label.label_le (F := Ideal) a k (by omega)
    have hs : (Label.label (F := Ideal) a k).slt (BitVec.ofNat 32 (k + 1)) = true := by
      rw [BitVec.slt_iff_toInt_lt, BitVec.toInt_eq_toNat_cond, BitVec.toInt_eq_toNat_cond, BitVec.toNat_ofNat,
        Nat.mod_eq_of_lt (by omega), if_pos (by omega), if_pos (by omega)]
      omega
    rw [show Label.best (F := Ideal) a (k + 1) = Scalar.select (Ideal.cmp .ogt (a (k + 1)) (Label.best (F := Ideal) a k)) (a (k + 1))
        (Label.best (F := Ideal) a k) from rfl,
      show Label.label (F := Ideal) a (k + 1) = Scalar.select (Ideal.cmp .ogt (a (k + 1)) (Label.best (F := Ideal) a k)) (BitVec.ofNat 32 (k + 1))
        (Label.label (F := Ideal) a k) from rfl]
    generalize Label.best (F := Ideal) a k = m at *
    generalize Label.label (F := Ideal) a k = l at *
    generalize a (k + 1) = x
    simp only [Ideal.cmp, Scalar.select, hs, and_true]
    rcases lt_trichotomy x m with h | h | h
    · simp [h, not_lt.2 h.le]
    · simp [h]
    · simp [h, not_lt.2 h.le, h.ne]

/-- The scores of pixel `p` among all the scores, in order of the class. -/
theorem drop_scoreOf (p k : ℕ) : reducesTo_S8x19x512x512_S8x512x512_d1.drop (Label.scoreOf p k) = Label.targetOf p := by
  funext b
  match b with
  | ⟨0, _⟩ => rfl
  | ⟨1, _⟩ => rfl
  | ⟨2, _⟩ => rfl

theorem eq_scoreOf (p : ℕ) (i : S8x19x512x512.Idx) (h : reducesTo_S8x19x512x512_S8x512x512_d1.drop i = Label.targetOf p) :
    i = Label.scoreOf p (i 1).val := by
  have h1 : (i 1).val < 19 := (i 1).isLt
  funext b
  refine Fin.ext ?_
  match b with
  | ⟨0, _⟩ => exact congrArg Fin.val (congrFun h 0)
  | ⟨1, _⟩ => exact (Nat.mod_eq_of_lt h1).symm
  | ⟨2, _⟩ => exact congrArg Fin.val (congrFun h 1)
  | ⟨3, _⟩ => exact congrArg Fin.val (congrFun h 2)

/-- The nineteen scores of a pixel, each with its class, are what the search goes through. -/
theorem fiber_eq (A : FVec Ideal S8x19x512x512 .f32) (p : ℕ) :
    Host.argReduceFiber A (iotaInDim S8x19x512x512 32 1) reducesTo_S8x19x512x512_S8x512x512_d1 (Label.targetOf p)
      = (List.range 19).map fun k => (A (Label.scoreOf p k), BitVec.ofNat 32 k) := by
  have e : ((List.finRange S8x19x512x512.numel).filter fun n =>
        reducesTo_S8x19x512x512_S8x512x512_d1.drop (S8x19x512x512.rowMajor.symm n) = Label.targetOf p)
      = (List.range 19).map fun k => S8x19x512x512.rowMajor (Label.scoreOf p k) := by
    refine List.Pairwise.eq_of_mem_iff (r := (· < ·)) (List.Pairwise.filter _ (List.sortedLT_finRange _).pairwise) ?_ fun n => ?_
    · refine List.pairwise_map.2 (List.Pairwise.imp_of_mem ?_ List.pairwise_lt_range)
      intro k k' hk hk' hlt
      rw [List.mem_range] at hk hk'
      rw [Fin.lt_def, Shape.rowMajor_val_four, Shape.rowMajor_val_four]
      show ((p / 262144 % 8 * 19 + k % 19) * 512 + p / 512 % 512) * 512 + p % 512
        < ((p / 262144 % 8 * 19 + k' % 19) * 512 + p / 512 % 512) * 512 + p % 512
      omega
    · simp only [List.mem_filter, List.mem_finRange, true_and, decide_eq_true_eq, List.mem_map, List.mem_range]
      constructor
      · intro h
        refine ⟨(S8x19x512x512.rowMajor.symm n 1).val, (S8x19x512x512.rowMajor.symm n 1).isLt, ?_⟩
        rw [← eq_scoreOf p _ h, Equiv.apply_symm_apply]
      · rintro ⟨k, _, rfl⟩
        rw [Equiv.symm_apply_apply, drop_scoreOf]
  unfold Host.argReduceFiber
  rw [e, List.map_map]
  refine List.map_congr_left fun k hk => ?_
  rw [List.mem_range] at hk
  simp only [Function.comp, Equiv.symm_apply_apply]
  refine Prod.ext rfl ?_
  show BitVec.ofNat 32 (k % 19) = _
  rw [Nat.mod_eq_of_lt hk]

/-- A search over a fiber that is nineteen scores in order, from the least float and class zero. -/
theorem search_fiber {s t u : Shape} {axes : List (Fin s.rank)} (x : FVec Ideal s .f32) (y : s.Idx → BitVec 32) (ix : u.Idx → Ideal .f32)
    (iy : u.Idx → BitVec 32) (h : s.ReducesTo axes t) (hu : 0 < u.numel) (j : t.Idx) (hx : ∀ q, ix q = (⊥ : EReal)) (hy : ∀ q, iy q = 0#32)
    (a : ℕ → EReal) (hf : Host.argReduceFiber x y h j = (List.range 19).map fun k => (a k, BitVec.ofNat 32 k)) :
    (Host.argReduce (F := Ideal) reducer_argmax_f32_i32 x y ix iy h hu j).2 = Label.label (F := Ideal) a 18 := by
  have e := congrFun (Ideal.argReduce_eq_reduce2 (φ := .f32) reducer_argmax_f32_i32 x y ix iy h hu) j
  rw [e, Host.reduce2_eq_foldl_fiber, hx, hy, hf, search_eq a 18 (by omega)]

/-- The search as a function of the pixel. -/
theorem classOf_eq {F : FTy → Type} [FloatOps F] (A : FVec F S8x19x512x512 .f32) : classOf A = fun j =>
    (Host.argReduce (F := F) reducer_argmax_f32_i32 A (iotaInDim S8x19x512x512 32 1) (constant S_ .f32 0xFF800000#32) (constantI S_ 32 0#32)
      reducesTo_S8x19x512x512_S8x512x512_d1 h_S_ j).2 := by
  delta classOf
  with_reducible rfl

/-- The float the search of the program starts from. -/
theorem start_eq (q : S_.Idx) : constant (F := Ideal) S_ .f32 0xFF800000#32 q = (⊥ : EReal) := ofBits_least

/-- The class of pixel `p`. -/
theorem classOf_apply (A : FVec Ideal S8x19x512x512 .f32) (p : ℕ) :
    classOf A (Label.targetOf p) = Label.label (F := Ideal) (fun k => A (Label.scoreOf p k)) 18 :=
  (congrFun (classOf_eq A) (Label.targetOf p)).trans
    (search_fiber A (iotaInDim S8x19x512x512 32 1) (constant S_ .f32 0xFF800000#32) (constantI S_ 32 0#32)
      reducesTo_S8x19x512x512_S8x512x512_d1 h_S_ (Label.targetOf p) start_eq (fun _ => rfl) (fun k => A (Label.scoreOf p k)) (fiber_eq A p))

/-- A pixel's place in its image, read off an array in a row. -/
theorem flat_apply {α : Type} (X : S8x512x512.Idx → α) (p : Fin 2097152) :
    shapeCast S2097152 X shapeCasts_S8x512x512_S2097152 (ValueIdx.ix1 p) = X (Label.targetOf p.val) := by
  refine shapeCast_apply _ _ _ _ ?_
  rw [Shape.rowMajor_val_one, Shape.rowMajor_val_three]
  show (p.val / 262144 % 8 * 512 + p.val / 512 % 512) * 512 + p.val % 512 = p.val
  have := p.isLt
  omega

theorem andi_comm (x y : BitVec 1) : IntOp.andi x y = IntOp.andi y x := BitVec.and_comm x y

/-- The code of pixel `p`. -/
theorem codes_apply (A : FVec Ideal S8x19x512x512 .f32) (B : S8x512x512.Idx → BitVec 32) (p : Fin 2097152) :
    codes A B (ValueIdx.ix1 p) = Label.codeAt (F := Ideal) A B p.val := by
  unfold codes Label.codeAt Label.code
  rw [← classOf_apply, ← flat_apply B p, ← flat_apply (classOf A) p]
  unfold Label.pair
  rw [andi_comm]
  rfl

end Cert.ReferenceIdeal.Line
-- ==== Proof.Equation.lean ====
/- The kernel's result and the reference's are the same function of the arguments on the extended reals. -/
module

public import proofs.«01_k».proof.Proof.DiceCount
public import proofs.«01_k».proof.Proof.RefTable
public import proofs.«01_k».proof.Proof.RefClass

@[expose] public section

noncomputable section

namespace Cert.Equation

open Idealize.ShloMosaic Cert.Counting Finset
open Cert.KernelIdeal (Launch.codeNat Launch.hist Launch.codes1 Launch.codes2 Dice.dice Dice.score Dice.all Dice.sum0 Dice.sum1 Dice.sum2)
open Cert.ReferenceIdeal (Line.matrix Line.scores Line.scored Line.struck)

/-- How many pixels have the code `j`. -/
def total (A : KernelIdeal.S8x19x512x512.Idx → EReal) (B : KernelIdeal.S8x512x512.Idx → BitVec 32) (j : ℕ) : ℕ :=
  cnt (Launch.codeNat A B) 2097152 j

/-- The score of one class from its three counts. -/
def point (tp fp fn : EReal) : EReal :=
  have eps := Ideal.ofBits .f32 0x322BCC77#32
  have p := Ideal.div tp (fp + eps)
  have r := Ideal.div tp (fn + eps)
  have truth := Ideal.cmp .oeq (tp + fn) (Ideal.ofBits .f32 0x00000000#32)
  have pred := Ideal.cmp .oeq (tp + fp) (Ideal.ofBits .f32 0x00000000#32)
  Scalar.select (IntOp.andi truth (IntOp.xori pred 1#1)) (Ideal.ofBits .f32 0x00000000#32)
    (Scalar.select (IntOp.andi truth pred) (Ideal.ofBits .f32 0x7FC00000#32)
      (Ideal.div (Ideal.ofBits .f32 0x40000000#32 * p * r) (p + r + eps)))

/-- Class zero has no score. -/
def answer (tp fp fn : EReal) (c : Fin 19) : EReal := if c = 0 then Ideal.ofBits .f32 0x7FC00000#32 else point tp fp fn

/-! ## The kernel's side -/

theorem first_bit : ∀ c : Fin 19, cmpi .eq (iota .tc KernelIdeal.S19x1 32 [0] KernelIdeal.Gen.iota_S19x1_d0_w32) (broadcast KernelIdeal.S19x1 0#32)
    (ValueIdx.ix2 c (0 : Fin 1)) = if c = 0 then 1#1 else 0#1 := by decide +kernel

theorem score_apply (tp fp fn : KernelIdeal.S19x1.Idx → EReal) (c : Fin 19) :
    Dice.score (F := Ideal) tp fp fn (ValueIdx.ix2 c (0 : Fin 1))
      = answer (tp (ValueIdx.ix2 c (0 : Fin 1))) (fp (ValueIdx.ix2 c (0 : Fin 1))) (fn (ValueIdx.ix2 c (0 : Fin 1))) c := by
  have e : Dice.score (F := Ideal) tp fp fn (ValueIdx.ix2 c (0 : Fin 1))
      = Scalar.select (cmpi .eq (iota .tc KernelIdeal.S19x1 32 [0] KernelIdeal.Gen.iota_S19x1_d0_w32) (broadcast KernelIdeal.S19x1 0#32)
          (ValueIdx.ix2 c (0 : Fin 1))) (Ideal.ofBits .f32 0x7FC00000#32)
        (point (tp (ValueIdx.ix2 c (0 : Fin 1))) (fp (ValueIdx.ix2 c (0 : Fin 1))) (fn (ValueIdx.ix2 c (0 : Fin 1)))) := rfl
  rw [e, first_bit]
  unfold answer
  by_cases h : c = 0 <;> simp [h, Scalar.select]

section Kernel
variable (A : KernelIdeal.S8x19x512x512.Idx → EReal) (B : KernelIdeal.S8x512x512.Idx → BitVec 32)

/-- One row of the two histograms together. -/
def both (p k : ℕ) : ℕ :=
  cnt (fun q => Launch.codeNat A B (49152 * (p / 3) + q)) 49152 (128 * (p % 3) + k)
    + cnt (fun q => Launch.codeNat A B (1572864 + (16384 * (p / 3) + q))) 16384 (128 * (p % 3) + k)

theorem both_apply (p : Fin 96) (k : Fin 128) :
    Launch.hist (F := Ideal) 384 (Launch.codes1 (F := Ideal) A B) (ValueIdx.ix2 p k)
      + Launch.hist (F := Ideal) 128 (Launch.codes2 (F := Ideal) A B) (ValueIdx.ix2 p k) = ((both A B p.val k.val : ℕ) : EReal) :=
  KernelIdeal.Launch.both_count A B (ValueIdx.ix2 p k)

theorem sum_both (i k : ℕ) (hi : i < 3) : ∑ w ∈ range 32, both A B (3 * w + i) k = total A B (128 * i + k) := by
  unfold total
  rw [← KernelIdeal.Launch.sum_tiles]
  refine sum_congr rfl fun w _ => ?_
  unfold both
  rw [show (3 * w + i) / 3 = w by omega, show (3 * w + i) % 3 = i by omega]

theorem dice_apply (c : Fin 19) :
    Dice.dice (F := Ideal) (Launch.hist (F := Ideal) 384 (Launch.codes1 (F := Ideal) A B)) (Launch.hist (F := Ideal) 128 (Launch.codes2 (F := Ideal) A B))
        (ValueIdx.ix2 c (0 : Fin 1))
      = answer ((total A B (20 * c.val) : ℕ) : EReal) ((∑ b ∈ range 19, total A B (19 * c.val + b) : ℕ) : EReal)
          ((∑ a ∈ range 19, total A B (19 * a + c.val) : ℕ) : EReal) c := by
  have h := both_apply A B
  have e0 := fun k => (KernelIdeal.Dice.sum0_apply h k).trans (congrArg Nat.cast (sum_both A B 0 k.val (by omega)))
  have e1 := fun k => (KernelIdeal.Dice.sum1_apply h k).trans (congrArg Nat.cast (sum_both A B 1 k.val (by omega)))
  have e2 := fun k => (KernelIdeal.Dice.sum2_apply h k).trans (congrArg Nat.cast (sum_both A B 2 k.val (by omega)))
  unfold Dice.dice
  rw [score_apply, KernelIdeal.Dice.diag2_apply e0 e1 e2, KernelIdeal.Dice.rows2_apply e0 e1 e2, KernelIdeal.Dice.cols2_apply e0 e1 e2]

end Kernel

/-! ## The reference's side -/

section Reference
variable (A : KernelIdeal.S8x19x512x512.Idx → EReal) (B : KernelIdeal.S8x512x512.Idx → BitVec 32)

theorem matrix_apply (a b : Fin 19) :
    Line.matrix (F := Ideal) A B (ValueIdx.ix2 a b) = ((total A B (19 * a.val + b.val) : ℕ) : EReal) := by
  have hle : ∀ p, Launch.codeNat A B p < 2 ^ 31 := fun p => (KernelIdeal.Label.codeAt_le (F := Ideal) A B p).trans_lt (by omega)
  unfold Line.matrix
  refine ReferenceIdeal.Line.square_apply _ (total A B) (ReferenceIdeal.Line.table_apply _ (Launch.codeNat A B) (fun p => ?_) hle)
    (fun x => (cnt_le _ _ x).trans_lt (by omega)) a b
  have e := ReferenceIdeal.Line.codes_apply A B p
  rw [ReferenceIdeal.Line.place_eq _ _ (by rw [e]; exact hle p.val), e]
  rfl

theorem not_eq : ∀ x : BitVec 1, IntOp.xori x 1#1 = ~~~x := by decide

theorem scored_apply (tp fp fn : FVec Ideal ReferenceIdeal.S19 .f32) (j : ReferenceIdeal.S19.Idx) :
    Line.scored tp fp fn (ReferenceIdeal.Line.ratio tp fp) (ReferenceIdeal.Line.ratio tp fn) j = point (tp j) (fp j) (fn j) := by
  unfold point
  simp only [not_eq]
  rfl

theorem scores_apply (c : Fin 19) :
    Line.scores (Line.matrix (F := Ideal) A B) (ValueIdx.ix1 c)
      = answer ((total A B (20 * c.val) : ℕ) : EReal) ((∑ b ∈ range 19, total A B (19 * c.val + b) : ℕ) : EReal)
          ((∑ a ∈ range 19, total A B (19 * a + c.val) : ℕ) : EReal) c := by
  have h := matrix_apply A B
  unfold Line.scores
  rw [ReferenceIdeal.Line.struck_apply, scored_apply, ReferenceIdeal.Line.diagOf_apply h, ReferenceIdeal.Line.rowsOf_apply h,
    ReferenceIdeal.Line.colsOf_apply h]
  rfl

end Reference

/-- The reference's scores are the kernel's. -/
theorem scores_eq (A : KernelIdeal.S8x19x512x512.Idx → EReal) (B : KernelIdeal.S8x512x512.Idx → BitVec 32) :
    Line.scores (Line.matrix (F := Ideal) A B)
      = shapeCast KernelIdeal.S19 (Dice.dice (F := Ideal) (Launch.hist (F := Ideal) 384 (Launch.codes1 (F := Ideal) A B))
          (Launch.hist (F := Ideal) 128 (Launch.codes2 (F := Ideal) A B))) KernelIdeal.Gen.shapeCasts_S19x1_S19 := by
  funext j
  obtain ⟨c, rfl⟩ : ∃ c : Fin 19, j = ValueIdx.ix1 c := ⟨j 0, ValueIdx.eq_ix1 j⟩
  rw [scores_apply, shapeCast_apply _ _ _ (ValueIdx.ix2 c (0 : Fin 1)), dice_apply]
  rw [Shape.rowMajor_val_one, Shape.rowMajor_val_two]
  show c.val * 1 + 0 = c.val
  omega

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Whole
public import proofs.«01_k».proof.Proof.RefRead
public import proofs.«01_k».proof.Proof.SameText
public import proofs.«01_k».proof.Proof.Equation
public import Idealize.ShloMosaic.Adequacy
public import Idealize.ShloMosaic.Init

@[expose] public section

noncomputable section

namespace Cert.Proof

open Idealize.ShloMosaic Idealize.SL.Sem

section
open Cert.KernelIdeal
variable {F : FTy → Type} [FloatOps F]

/-- Whatever the floats are, the kernel's program ends with its arguments as they were and every semaphore at zero. -/
theorem run_frame (m : (ℓ : Loc nD τ sig) → Buf (Elt F) ℓ) (ρ : Dev nD → PrngReg) [∀ e, Nonempty (Elt F e)] :
    θ_run (defs (F := F)) (threads (F := F)) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run (defs (F := F)) _ _).mono (fun _ h => ⟨fun c => ⟨(h.1 c).1, (h.1 c).2.1⟩, h.2⟩)
    (Launch.run_main (F := F) m ρ)

end

/-- The kernel ends with its arguments as they were and every semaphore at zero. -/
theorem frame_kernel : Cert.quiescent_Kernel := by
  intro m ρ _
  rw [SameText.defs_eq]
  exact run_frame (F := Bits) m ρ

/-- So does the kernel over the extended reals. -/
theorem frame_ideal : Cert.quiescent_KernelIdeal := fun m ρ _ => run_frame (F := Ideal) m ρ

/-- So does the reference over the extended reals. -/
theorem frame_reference : Cert.quiescent_ReferenceIdeal := fun m ρ _ =>
  (θ_run Cert.ReferenceIdeal.defs _ _).mono (fun _ h => ⟨fun c => (h.1 c).2, h.2⟩)
    (Cert.ReferenceIdeal.Line.run_main (F := Ideal) m ρ)

/-- On equal arguments the kernel and the reference end with the same scores. -/
theorem same_scores : Cert.algebraic_KernelIdeal_ReferenceIdeal := by
  intro m g m' g' _ hm
  refine ⟨fun c => Cert.KernelIdeal.Launch.result (F := Ideal) m c,
    (θ_run Cert.KernelIdeal.defs _ _).mono (fun _ h c => ⟨(h.1 c).2.2, (h.1 c).1, (h.1 c).2.1⟩)
      (Cert.KernelIdeal.Launch.run_main (F := Ideal) m g),
    (θ_run Cert.ReferenceIdeal.defs _ _).mono (fun _ h c => ⟨(h.1 c).1.trans ?_, (h.1 c).2⟩)
      (Cert.ReferenceIdeal.Line.run_main (F := Ideal) m' g')⟩
  rw [(hm c).1, (hm c).2]
  exact Cert.Equation.scores_eq _ _

/-- The claims, together. -/
theorem claim : Cert.Claim := ⟨Cert.Kernel.Gen.facts, Cert.KernelIdeal.Gen.facts, Cert.ReferenceIdeal.Gen.facts,
  frame_kernel, frame_ideal, frame_reference, trivial, same_scores⟩

end Cert.Proof

end
